-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v7)) (v1 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_v10) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v6) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v50) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v9)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v35) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v10)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)) →
    ∃ (v0 : (c : Dev Cert.Kernel10Ideal.nD) → Buf (Elt Ideal) ((c.tc : Thread Cert.Kernel10Ideal.nD Cert.Kernel10Ideal.τ).loc Cert.Kernel10Ideal.main_v17_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v17_2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)) →
    ∃ (v0 : (c : Dev Cert.Kernel11Ideal.nD) → Buf (Elt Ideal) ((c.tc : Thread Cert.Kernel11Ideal.nD Cert.Kernel11Ideal.τ).loc Cert.Kernel11Ideal.main_v17_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v17_2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Kernel.lean ====
abbrev S128x8x5408 : Shape := ⟨3, ![128, 8, 5408]⟩
abbrev S1x128x3360 : Shape := ⟨3, ![1, 128, 3360]⟩
abbrev S1x128x16x64x64 : Shape := ⟨5, ![1, 128, 16, 64, 64]⟩
abbrev S1x3360 : Shape := ⟨2, ![1, 3360]⟩
abbrev S1x1024 : Shape := ⟨2, ![1, 1024]⟩
abbrev S1x64x1024 : Shape := ⟨3, ![1, 64, 1024]⟩
abbrev S1x160x1024 : Shape := ⟨3, ![1, 160, 1024]⟩
abbrev S1x16x64 : Shape := ⟨3, ![1, 16, 64]⟩
abbrev S_ : Shape := ⟨0, ![]⟩
abbrev S128x8x5632 : Shape := ⟨3, ![128, 8, 5632]⟩
abbrev S128x3360 : Shape := ⟨2, ![128, 3360]⟩
abbrev S128x3584 : Shape := ⟨2, ![128, 3584]⟩
abbrev S128x1x3584 : Shape := ⟨3, ![128, 1, 3584]⟩
abbrev S3360 : Shape := ⟨1, ![3360]⟩
abbrev S3584 : Shape := ⟨1, ![3584]⟩
abbrev S1x3584 : Shape := ⟨2, ![1, 3584]⟩
abbrev S1024 : Shape := ⟨1, ![1024]⟩
abbrev S64x1024 : Shape := ⟨2, ![64, 1024]⟩
abbrev S128x1024 : Shape := ⟨2, ![128, 1024]⟩
abbrev S160x1024 : Shape := ⟨2, ![160, 1024]⟩
abbrev S256x1024 : Shape := ⟨2, ![256, 1024]⟩
abbrev S16x64 : Shape := ⟨2, ![16, 64]⟩
abbrev S128x8x1024 : Shape := ⟨3, ![128, 8, 1024]⟩
abbrev S128x16x64x64 : Shape := ⟨4, ![128, 16, 64, 64]⟩
abbrev S8x8x1024 : Shape := ⟨3, ![8, 8, 1024]⟩
abbrev S8x8x512 : Shape := ⟨3, ![8, 8, 512]⟩
abbrev S8x1x3584 : Shape := ⟨3, ![8, 1, 3584]⟩
abbrev S1x8x16x64x64 : Shape := ⟨5, ![1, 8, 16, 64, 64]⟩
abbrev S8x16x64x64 : Shape := ⟨4, ![8, 16, 64, 64]⟩
abbrev S8x8x64x128 : Shape := ⟨4, ![8, 8, 64, 128]⟩
abbrev S8x8x128x128 : Shape := ⟨4, ![8, 8, 128, 128]⟩
abbrev S128x128 : Shape := ⟨2, ![128, 128]⟩
abbrev S256x256 : Shape := ⟨2, ![256, 256]⟩
abbrev S8x1 : Shape := ⟨2, ![8, 1]⟩
abbrev S64x128 : Shape := ⟨2, ![64, 128]⟩
abbrev S1x1x1x64x64 : Shape := ⟨5, ![1, 1, 1, 64, 64]⟩
abbrev S64x64 : Shape := ⟨2, ![64, 64]⟩
abbrev S1x1x64x64 : Shape := ⟨4, ![1, 1, 64, 64]⟩
abbrev S1x8x1024 : Shape := ⟨3, ![1, 8, 1024]⟩
abbrev S8x1024 : Shape := ⟨2, ![8, 1024]⟩
abbrev S1x1x1024 : Shape := ⟨3, ![1, 1, 1024]⟩
abbrev S1x8x512 : Shape := ⟨3, ![1, 8, 512]⟩
abbrev S8x512 : Shape := ⟨2, ![8, 512]⟩
abbrev S1x1x512 : Shape := ⟨3, ![1, 1, 512]⟩
abbrev S1x512 : Shape := ⟨2, ![1, 512]⟩
abbrev S64x512 : Shape := ⟨2, ![64, 512]⟩
abbrev S64x256 : Shape := ⟨2, ![64, 256]⟩
abbrev S1x1x64x128 : Shape := ⟨4, ![1, 1, 64, 128]⟩
abbrev S1x128 : Shape := ⟨2, ![1, 128]⟩
abbrev S1536x256 : Shape := ⟨2, ![1536, 256]⟩
abbrev S512x256 : Shape := ⟨2, ![512, 256]⟩
abbrev S8x128 : Shape := ⟨2, ![8, 128]⟩

abbrev nBuf : Space → Nat
  | .hbm => 58
  | .vmem => 45
  | .smem => 0
  | _ => 0

abbrev bufTy : (tb : Table) → Fin (tcTables nBuf tb) → BufTy
  | .hbm, ⟨0, _⟩ => ⟨S128x8x5408, .f32⟩
  | .hbm, ⟨1, _⟩ => ⟨S1x128x3360, .f32⟩
  | .hbm, ⟨2, _⟩ => ⟨S1x128x16x64x64, .f32⟩
  | .hbm, ⟨3, _⟩ => ⟨S1x3360, .f32⟩
  | .hbm, ⟨4, _⟩ => ⟨S1x1024, .f32⟩
  | .hbm, ⟨5, _⟩ => ⟨S1x64x1024, .f32⟩
  | .hbm, ⟨6, _⟩ => ⟨S1x1024, .f32⟩
  | .hbm, ⟨7, _⟩ => ⟨S1x64x1024, .f32⟩
  | .hbm, ⟨8, _⟩ => ⟨S1x160x1024, .f32⟩
  | .hbm, ⟨9, _⟩ => ⟨S1x1024, .f32⟩
  | .hbm, ⟨10, _⟩ => ⟨S1x1024, .f32⟩
  | .hbm, ⟨11, _⟩ => ⟨S1x16x64, .f32⟩
  | .hbm, ⟨12, _⟩ => ⟨S1x1024, .f32⟩
  | .hbm, ⟨13, _⟩ => ⟨S1x1024, .f32⟩
  | .hbm, ⟨14, _⟩ => ⟨S_, .i32⟩
  | .hbm, ⟨15, _⟩ => ⟨S_, .f32⟩
  | .hbm, ⟨16, _⟩ => ⟨S128x8x5632, .f32⟩
  | .hbm, ⟨17, _⟩ => ⟨S128x3360, .f32⟩
  | .hbm, ⟨18, _⟩ => ⟨S_, .i32⟩
  | .hbm, ⟨19, _⟩ => ⟨S_, .f32⟩
  | .hbm, ⟨20, _⟩ => ⟨S128x3584, .f32⟩
  | .hbm, ⟨21, _⟩ => ⟨S128x1x3584, .f32⟩
  | .hbm, ⟨22, _⟩ => ⟨S3360, .f32⟩
  | .hbm, ⟨23, _⟩ => ⟨S_, .i32⟩
  | .hbm, ⟨24, _⟩ => ⟨S_, .f32⟩
  | .hbm, ⟨25, _⟩ => ⟨S3584, .f32⟩
  | .hbm, ⟨26, _⟩ => ⟨S1x3584, .f32⟩
  | .hbm, ⟨27, _⟩ => ⟨S1024, .f32⟩
  | .hbm, ⟨28, _⟩ => ⟨S1x1024, .f32⟩
  | .hbm, ⟨29, _⟩ => ⟨S64x1024, .f32⟩
  | .hbm, ⟨30, _⟩ => ⟨S_, .i32⟩
  | .hbm, ⟨31, _⟩ => ⟨S_, .f32⟩
  | .hbm, ⟨32, _⟩ => ⟨S128x1024, .f32⟩
  | .hbm, ⟨33, _⟩ => ⟨S128x1024, .bf16⟩
  | .hbm, ⟨34, _⟩ => ⟨S1024, .f32⟩
  | .hbm, ⟨35, _⟩ => ⟨S1x1024, .f32⟩
  | .hbm, ⟨36, _⟩ => ⟨S64x1024, .f32⟩
  | .hbm, ⟨37, _⟩ => ⟨S_, .i32⟩
  | .hbm, ⟨38, _⟩ => ⟨S_, .f32⟩
  | .hbm, ⟨39, _⟩ => ⟨S128x1024, .f32⟩
  | .hbm, ⟨40, _⟩ => ⟨S128x1024, .bf16⟩
  | .hbm, ⟨41, _⟩ => ⟨S160x1024, .f32⟩
  | .hbm, ⟨42, _⟩ => ⟨S_, .i32⟩
  | .hbm, ⟨43, _⟩ => ⟨S_, .f32⟩
  | .hbm, ⟨44, _⟩ => ⟨S256x1024, .f32⟩
  | .hbm, ⟨45, _⟩ => ⟨S256x1024, .bf16⟩
  | .hbm, ⟨46, _⟩ => ⟨S1024, .f32⟩
  | .hbm, ⟨47, _⟩ => ⟨S1x1024, .f32⟩
  | .hbm, ⟨48, _⟩ => ⟨S1024, .f32⟩
  | .hbm, ⟨49, _⟩ => ⟨S1x1024, .f32⟩
  | .hbm, ⟨50, _⟩ => ⟨S16x64, .f32⟩
  | .hbm, ⟨51, _⟩ => ⟨S1x1024, .f32⟩
  | .hbm, ⟨52, _⟩ => ⟨S1024, .f32⟩
  | .hbm, ⟨53, _⟩ => ⟨S1x1024, .f32⟩
  | .hbm, ⟨54, _⟩ => ⟨S1024, .f32⟩
  | .hbm, ⟨55, _⟩ => ⟨S1x1024, .f32⟩
  | .hbm, ⟨56, _⟩ => ⟨S128x8x1024, .f32⟩
  | .hbm, ⟨57, _⟩ => ⟨S128x16x64x64, .f32⟩
  | .local _ .vmem, ⟨0, _⟩ => ⟨S8x8x1024, .f32⟩
  | .local _ .vmem, ⟨1, _⟩ => ⟨S8x8x1024, .f32⟩
  | .local _ .vmem, ⟨2, _⟩ => ⟨S8x8x1024, .f32⟩
  | .local _ .vmem, ⟨3, _⟩ => ⟨S8x8x1024, .f32⟩
  | .local _ .vmem, ⟨4, _⟩ => ⟨S8x8x1024, .f32⟩
  | .local _ .vmem, ⟨5, _⟩ => ⟨S8x8x1024, .f32⟩
  | .local _ .vmem, ⟨6, _⟩ => ⟨S8x8x512, .f32⟩
  | .local _ .vmem, ⟨7, _⟩ => ⟨S8x8x512, .f32⟩
  | .local _ .vmem, ⟨8, _⟩ => ⟨S8x1x3584, .f32⟩
  | .local _ .vmem, ⟨9, _⟩ => ⟨S8x1x3584, .f32⟩
  | .local _ .vmem, ⟨10, _⟩ => ⟨S1x8x16x64x64, .f32⟩
  | .local _ .vmem, ⟨11, _⟩ => ⟨S1x8x16x64x64, .f32⟩
  | .local _ .vmem, ⟨12, _⟩ => ⟨S1x3584, .f32⟩
  | .local _ .vmem, ⟨13, _⟩ => ⟨S1x1024, .f32⟩
  | .local _ .vmem, ⟨14, _⟩ => ⟨S128x1024, .bf16⟩
  | .local _ .vmem, ⟨15, _⟩ => ⟨S1x1024, .f32⟩
  | .local _ .vmem, ⟨16, _⟩ => ⟨S128x1024, .bf16⟩
  | .local _ .vmem, ⟨17, _⟩ => ⟨S256x1024, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S8x8x1024, .f32⟩
  | .local _ .vmem, ⟨24, _⟩ => ⟨S8x8x1024, .f32⟩
  | .local _ .vmem, ⟨25, _⟩ => ⟨S8x16x64x64, .f32⟩
  | .local _ .vmem, ⟨26, _⟩ => ⟨S8x16x64x64, .f32⟩
  | .local _ .vmem, ⟨27, _⟩ => ⟨S8x8x64x128, .f32⟩
  | .local _ .vmem, ⟨28, _⟩ => ⟨S8x1x3584, .f32⟩
  | .local _ .vmem, ⟨29, _⟩ => ⟨S64x1024, .f32⟩
  | .local _ .vmem, ⟨30, _⟩ => ⟨S64x1024, .f32⟩
  | .local _ .vmem, ⟨31, _⟩ => ⟨S64x1024, .f32⟩
  | .local _ .vmem, ⟨32, _⟩ => ⟨S64x1024, .f32⟩
  | .local _ .vmem, ⟨33, _⟩ => ⟨S64x1024, .f32⟩
  | .local _ .vmem, ⟨34, _⟩ => ⟨S64x1024, .f32⟩
  | .local _ .vmem, ⟨35, _⟩ => ⟨S64x1024, .f32⟩
  | .local _ .vmem, ⟨36, _⟩ => ⟨S8x8x64x128, .f32⟩
  | .local _ .vmem, ⟨37, _⟩ => ⟨S8x8x64x128, .f32⟩
  | .local _ .vmem, ⟨38, _⟩ => ⟨S8x8x64x128, .f32⟩
  | .local _ .vmem, ⟨39, _⟩ => ⟨S64x1024, .f32⟩
  | .local _ .vmem, ⟨40, _⟩ => ⟨S8x8x128x128, .bf16⟩
  | .local _ .vmem, ⟨41, _⟩ => ⟨S8x8x128x128, .bf16⟩
  | .local _ .vmem, ⟨42, _⟩ => ⟨S8x8x128x128, .bf16⟩
  | .local _ .vmem, ⟨43, _⟩ => ⟨S8x8x128x128, .bf16⟩
  | .local _ .vmem, ⟨44, _⟩ => ⟨S8x8x64x128, .bf16⟩
  | _, _ => ⟨S128x8x5408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_call1_v0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c_1 : Ref sig .tc := ⟨.hbm, 23, rfl⟩
abbrev main_call2_v0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c_2 : Ref sig .tc := ⟨.hbm, 30, rfl⟩
abbrev main_call3_v0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_3 : Ref sig .tc := ⟨.hbm, 37, rfl⟩
abbrev main_call4_v0 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_4 : Ref sig .tc := ⟨.hbm, 42, rfl⟩
abbrev main_call5_v0 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30_0 : Ref sig .tc := ⟨.hbm, 56, rfl⟩
abbrev main_v30_1 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_scratch7 : Ref sig .tc := ⟨.vmem, 34, rfl⟩
abbrev cc0_scratch8 : Ref sig .tc := ⟨.vmem, 35, rfl⟩
abbrev cc0_scratch9 : Ref sig .tc := ⟨.vmem, 36, rfl⟩
abbrev cc0_scratch10 : Ref sig .tc := ⟨.vmem, 37, rfl⟩
abbrev cc0_scratch11 : Ref sig .tc := ⟨.vmem, 38, rfl⟩
abbrev cc0_scratch12 : Ref sig .tc := ⟨.vmem, 39, rfl⟩
abbrev cc0_scratch13 : Ref sig .tc := ⟨.vmem, 40, rfl⟩
abbrev cc0_scratch14 : Ref sig .tc := ⟨.vmem, 41, rfl⟩
abbrev cc0_scratch15 : Ref sig .tc := ⟨.vmem, 42, rfl⟩
abbrev cc0_scratch16 : Ref sig .tc := ⟨.vmem, 43, rfl⟩
abbrev cc0_scratch17 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨2, ![16, 1], ![false, false]⟩

def k0_off1 (c0_i32_534 : BitVec 32) (c0_i32_531 : BitVec 32) : Fin 2 → Nat :=
  let c1_i32_532 : BitVec 32 := 1#32
  let v862 : BitVec 32 := Scalar.subi c0_i32_531 c1_i32_532
  let c0_i32_533 : BitVec 32 := 0#32
  let v865 : BitVec 32 := Scalar.maxsi v862 c0_i32_533
  let v866 : BitVec 32 := Scalar.addi c0_i32_534 v865
  let v867 : Index := Scalar.indexCast v866
  let c0_535 : Index := 0#32
  ![v867.toNat, 0]
def k0_off2 (c0_i32_536 : BitVec 32) (c0_i32_531 : BitVec 32) : Fin 2 → Nat :=
  let v869 : BitVec 32 := Scalar.addi c0_i32_536 c0_i32_531
  let v870 : Index := Scalar.indexCast v869
  let c0_537 : Index := 0#32
  ![v870.toNat, 0]
def k0_off3 (c0_i32_9339 : BitVec 32) : Fin 2 → Nat :=
  let c7_i32_9337 : BitVec 32 := 7#32
  let c0_i32_9338 : BitVec 32 := 0#32
  let v22136 : BitVec 32 := Scalar.maxsi c7_i32_9337 c0_i32_9338
  let v22137 : BitVec 32 := Scalar.addi c0_i32_9339 v22136
  let v22138 : Index := Scalar.indexCast v22137
  let c0_9340 : Index := 0#32
  ![v22138.toNat, 0]
def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x16x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S8x8x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S8x16x64x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== Kernel2.lean ====
abbrev S4x2048x2048 : Shape := ⟨3, ![4, 2048, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S8192x2048 : Shape := ⟨2, ![8192, 2048]⟩
abbrev S2048x8192 : Shape := ⟨2, ![2048, 8192]⟩
abbrev S2048 : Shape := ⟨1, ![2048]⟩
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S1x2048x8192, .f32⟩
  | .hbm, ⟨2, _⟩ => ⟨S1x8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S2048x8192, .f32⟩
  | .hbm, ⟨7, _⟩ => ⟨S2048x8192, .bf16⟩
  | .hbm, ⟨8, _⟩ => ⟨S8192x2048, .f32⟩
  | .hbm, ⟨9, _⟩ => ⟨S8192x2048, .bf16⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S4x2048x2048 : Shape := ⟨3, ![4, 2048, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S2048 : Shape := ⟨1, ![2048]⟩
abbrev S8192 : Shape := ⟨1, ![8192]⟩
abbrev S8192x1 : Shape := ⟨2, ![8192, 1]⟩

abbrev nBuf : Space → Nat
  | .hbm => 49
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048x8192, .f32⟩
  | .hbm, ⟨2, _⟩ => ⟨S1x8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S2048x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S2048, .f32⟩
  | .hbm, ⟨19, _⟩ => ⟨S2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S1x2048, .f32⟩
  | .hbm, ⟨47, _⟩ => ⟨S8192x2048, .f32⟩
  | .hbm, ⟨48, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel3.lean ====
abbrev S4x256x2048 : Shape := ⟨3, ![4, 256, 2048]⟩
abbrev S1x2048x2048 : Shape := ⟨3, ![1, 2048, 2048]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S4x256x2048, .f32⟩
  | .hbm, ⟨1, _⟩ => ⟨S1x2048x2048, .f32⟩
  | .hbm, ⟨2, _⟩ => ⟨S1024x2048, .f32⟩
  | .hbm, ⟨3, _⟩ => ⟨S1024x2048, .f32⟩
  | .local _ .vmem, ⟨0, _⟩ => ⟨S1024x2048, .f32⟩
  | .local _ .vmem, ⟨1, _⟩ => ⟨S1x2048x512, .f32⟩
  | .local _ .vmem, ⟨2, _⟩ => ⟨S1x2048x512, .f32⟩
  | .local _ .vmem, ⟨3, _⟩ => ⟨S1024x512, .f32⟩
  | .local _ .vmem, ⟨4, _⟩ => ⟨S1024x512, .f32⟩
  | .local _ .vmem, ⟨5, _⟩ => ⟨S1024x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4x256x2048 : Shape := ⟨3, ![4, 256, 2048]⟩
abbrev S1x2048x2048 : Shape := ⟨3, ![1, 2048, 2048]⟩
abbrev S2048x2048 : Shape := ⟨2, ![2048, 2048]⟩
abbrev S1024x2048 : Shape := ⟨2, ![1024, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x2048x2048, .f32⟩
  | .hbm, ⟨2, _⟩ => ⟨S2048x2048, .f32⟩
  | .hbm, ⟨3, _⟩ => ⟨S4x256x2048, .f32⟩
  | .hbm, ⟨4, _⟩ => ⟨S1024x2048, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S4x2048x2048 : Shape := ⟨3, ![4, 2048, 2048]⟩
abbrev S1x2048x5408 : Shape := ⟨3, ![1, 2048, 5408]⟩
abbrev S8192x2048 : Shape := ⟨2, ![8192, 2048]⟩
abbrev S1x5408x2048 : Shape := ⟨3, ![1, 5408, 2048]⟩
abbrev S1x288x2048 : Shape := ⟨3, ![1, 288, 2048]⟩
abbrev S288x2048 : Shape := ⟨2, ![288, 2048]⟩
abbrev S_ : Shape := ⟨0, ![]⟩
abbrev S512x2048 : Shape := ⟨2, ![512, 2048]⟩
abbrev S8192x5632 : Shape := ⟨2, ![8192, 5632]⟩
abbrev S1024x2048 : Shape := ⟨2, ![1024, 2048]⟩
abbrev S1x512x2048 : Shape := ⟨3, ![1, 512, 2048]⟩
abbrev S1024x512 : Shape := ⟨2, ![1024, 512]⟩
abbrev S4x2048x5632 : Shape := ⟨3, ![4, 2048, 5632]⟩
abbrev S4x1x3360 : Shape := ⟨3, ![4, 1, 3360]⟩
abbrev S4x3360 : Shape := ⟨2, ![4, 3360]⟩

abbrev nBuf : Space → Nat
  | .hbm => 15
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S1x2048x5408, .f32⟩
  | .hbm, ⟨2, _⟩ => ⟨S8192x2048, .f32⟩
  | .hbm, ⟨3, _⟩ => ⟨S1x5408x2048, .f32⟩
  | .hbm, ⟨4, _⟩ => ⟨S1x5408x2048, .f32⟩
  | .hbm, ⟨5, _⟩ => ⟨S1x288x2048, .f32⟩
  | .hbm, ⟨6, _⟩ => ⟨S288x2048, .f32⟩
  | .hbm, ⟨7, _⟩ => ⟨S_, .i32⟩
  | .hbm, ⟨8, _⟩ => ⟨S_, .f32⟩
  | .hbm, ⟨9, _⟩ => ⟨S512x2048, .f32⟩
  | .hbm, ⟨10, _⟩ => ⟨S512x2048, .bf16⟩
  | .hbm, ⟨11, _⟩ => ⟨S8192x5632, .f32⟩
  | .hbm, ⟨12, _⟩ => ⟨S4x2048x5632, .f32⟩
  | .hbm, ⟨13, _⟩ => ⟨S4x1x3360, .f32⟩
  | .hbm, ⟨14, _⟩ => ⟨S4x3360, .f32⟩
  | .local _ .vmem, ⟨0, _⟩ => ⟨S1024x2048, .f32⟩
  | .local _ .vmem, ⟨1, _⟩ => ⟨S1024x2048, .f32⟩
  | .local _ .vmem, ⟨2, _⟩ => ⟨S1x512x2048, .f32⟩
  | .local _ .vmem, ⟨3, _⟩ => ⟨S1x512x2048, .f32⟩
  | .local _ .vmem, ⟨4, _⟩ => ⟨S512x2048, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg1 : BitVec 32 := BitVec.ofNat 32 (i 1).val
  let c10_i32 : BitVec 32 := 10#32
  let v3 : BitVec 1 := Scalar.cmpi .slt arg1 c10_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c10_i32_2 : BitVec 32 := 10#32
  let v6 : BitVec 1 := Scalar.cmpi .eq arg1 c10_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4x2048x2048 : Shape := ⟨3, ![4, 2048, 2048]⟩
abbrev S1x2048x5408 : Shape := ⟨3, ![1, 2048, 5408]⟩
abbrev S2048x5408 : Shape := ⟨2, ![2048, 5408]⟩
abbrev S4x2048x5408 : Shape := ⟨3, ![4, 2048, 5408]⟩
abbrev S8192x5408 : Shape := ⟨2, ![8192, 5408]⟩
abbrev S_ : Shape := ⟨0, ![]⟩
abbrev S8192x5632 : Shape := ⟨2, ![8192, 5632]⟩
abbrev S4x2048x3360 : Shape := ⟨3, ![4, 2048, 3360]⟩
abbrev S4x1x3360 : Shape := ⟨3, ![4, 1, 3360]⟩
abbrev S4x3360 : Shape := ⟨2, ![4, 3360]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048x5408, .f32⟩
  | .hbm, ⟨2, _⟩ => ⟨S2048x5408, .f32⟩
  | .hbm, ⟨3, _⟩ => ⟨S4x2048x5408, .f32⟩
  | .hbm, ⟨4, _⟩ => ⟨S8192x5408, .f32⟩
  | .hbm, ⟨5, _⟩ => ⟨S_, .i32⟩
  | .hbm, ⟨6, _⟩ => ⟨S_, .f32⟩
  | .hbm, ⟨7, _⟩ => ⟨S8192x5632, .f32⟩
  | .hbm, ⟨8, _⟩ => ⟨S4x2048x3360, .f32⟩
  | .hbm, ⟨9, _⟩ => ⟨S4x1x3360, .f32⟩
  | .hbm, ⟨10, _⟩ => ⟨S4x3360, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel5.lean ====
abbrev S4x2048x1024 : Shape := ⟨3, ![4, 2048, 1024]⟩
abbrev S4x2048x2048 : Shape := ⟨3, ![4, 2048, 2048]⟩
abbrev S1x2048x2048 : Shape := ⟨3, ![1, 2048, 2048]⟩
abbrev S1x2048 : Shape := ⟨2, ![1, 2048]⟩
abbrev S8192x1024 : Shape := ⟨2, ![8192, 1024]⟩
abbrev S1x1024x2048 : Shape := ⟨3, ![1, 1024, 2048]⟩
abbrev S1024x2048 : Shape := ⟨2, ![1024, 2048]⟩
abbrev S8192x2048 : Shape := ⟨2, ![8192, 2048]⟩
abbrev S2048 : Shape := ⟨1, ![2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 20
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x2048, .f32⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S8192x1024, .f32⟩
  | .hbm, ⟨7, _⟩ => ⟨S8192x1024, .f32⟩
  | .hbm, ⟨8, _⟩ => ⟨S1x1024x2048, .f32⟩
  | .hbm, ⟨9, _⟩ => ⟨S1024x2048, .f32⟩
  | .hbm, ⟨10, _⟩ => ⟨S1024x2048, .bf16⟩
  | .hbm, ⟨11, _⟩ => ⟨S1x1024x2048, .f32⟩
  | .hbm, ⟨12, _⟩ => ⟨S1024x2048, .f32⟩
  | .hbm, ⟨13, _⟩ => ⟨S1024x2048, .bf16⟩
  | .hbm, ⟨14, _⟩ => ⟨S8192x2048, .f32⟩
  | .hbm, ⟨15, _⟩ => ⟨S2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S8192x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x2048, .bf16⟩
  | .local _ .vmem, ⟨5, _⟩ => ⟨S1024x2048, .bf16⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S4x2048x1024 : Shape := ⟨3, ![4, 2048, 1024]⟩
abbrev S4x2048x2048 : Shape := ⟨3, ![4, 2048, 2048]⟩
abbrev S1x2048x2048 : Shape := ⟨3, ![1, 2048, 2048]⟩
abbrev S1x2048 : Shape := ⟨2, ![1, 2048]⟩
abbrev S8192x2048 : Shape := ⟨2, ![8192, 2048]⟩
abbrev S2048x2048 : Shape := ⟨2, ![2048, 2048]⟩
abbrev S_ : Shape := ⟨0, ![]⟩
abbrev S2048 : Shape := ⟨1, ![2048]⟩
abbrev S8192 : Shape := ⟨1, ![8192]⟩
abbrev S8192x1 : Shape := ⟨2, ![8192, 1]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x2048, .f32⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S4x2048x2048, .f32⟩
  | .hbm, ⟨7, _⟩ => ⟨S8192x2048, .f32⟩
  | .hbm, ⟨8, _⟩ => ⟨S2048x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S2048, .f32⟩
  | .hbm, ⟨16, _⟩ => ⟨S2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S1x2048, .f32⟩
  | .hbm, ⟨44, _⟩ => ⟨S8192x2048, .f32⟩
  | .hbm, ⟨45, _⟩ => ⟨S8192x2048, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel6.lean ====
abbrev S4x2048x2048 : Shape := ⟨3, ![4, 2048, 2048]⟩
abbrev S4x256x4x512 : Shape := ⟨4, ![4, 256, 4, 512]⟩
abbrev S1x2048x2048 : Shape := ⟨3, ![1, 2048, 2048]⟩
abbrev S1x2048 : Shape := ⟨2, ![1, 2048]⟩
abbrev S4x256x2048 : Shape := ⟨3, ![4, 256, 2048]⟩
abbrev S2048x2048 : Shape := ⟨2, ![2048, 2048]⟩
abbrev S2048 : Shape := ⟨1, ![2048]⟩
abbrev S1x256x2048 : Shape := ⟨3, ![1, 256, 2048]⟩
abbrev S256x2048 : Shape := ⟨2, ![256, 2048]⟩
abbrev S256x512 : Shape := ⟨2, ![256, 512]⟩
abbrev S256x256 : Shape := ⟨2, ![256, 256]⟩
abbrev S256 : Shape := ⟨1, ![256]⟩
abbrev S256x1 : Shape := ⟨2, ![256, 1]⟩

abbrev nBuf : Space → Nat
  | .hbm => 18
  | .vmem => 14
  | .smem => 0
  | _ => 0

abbrev bufTy : (tb : Table) → Fin (tcTables nBuf tb) → BufTy
  | .hbm, ⟨0, _⟩ => ⟨S4x2048x2048, .f32⟩
  | .hbm, ⟨1, _⟩ => ⟨S4x256x4x512, .f32⟩
  | .hbm, ⟨2, _⟩ => ⟨S4x256x4x512, .f32⟩
  | .hbm, ⟨3, _⟩ => ⟨S1x2048x2048, .f32⟩
  | .hbm, ⟨4, _⟩ => ⟨S1x2048x2048, .f32⟩
  | .hbm, ⟨5, _⟩ => ⟨S1x2048, .f32⟩
  | .hbm, ⟨6, _⟩ => ⟨S1x2048, .f32⟩
  | .hbm, ⟨7, _⟩ => ⟨S4x256x2048, .f32⟩
  | .hbm, ⟨8, _⟩ => ⟨S4x256x2048, .f32⟩
  | .hbm, ⟨9, _⟩ => ⟨S2048x2048, .f32⟩
  | .hbm, ⟨10, _⟩ => ⟨S2048x2048, .bf16⟩
  | .hbm, ⟨11, _⟩ => ⟨S2048x2048, .f32⟩
  | .hbm, ⟨12, _⟩ => ⟨S2048x2048, .bf16⟩
  | .hbm, ⟨13, _⟩ => ⟨S2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S4x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S2048x2048, .bf16⟩
  | .local _ .vmem, ⟨7, _⟩ => ⟨S2048x2048, .bf16⟩
  | .local _ .vmem, ⟨8, _⟩ => ⟨S1x2048, .f32⟩
  | .local _ .vmem, ⟨9, _⟩ => ⟨S1x2048, .f32⟩
  | .local _ .vmem, ⟨10, _⟩ => ⟨S1x256x2048, .f32⟩
  | .local _ .vmem, ⟨11, _⟩ => ⟨S1x256x2048, .f32⟩
  | .local _ .vmem, ⟨12, _⟩ => ⟨S256x2048, .bf16⟩
  | .local _ .vmem, ⟨13, _⟩ => ⟨S256x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S4x2048x2048 : Shape := ⟨3, ![4, 2048, 2048]⟩
abbrev S4x256x4x512 : Shape := ⟨4, ![4, 256, 4, 512]⟩
abbrev S1x2048x2048 : Shape := ⟨3, ![1, 2048, 2048]⟩
abbrev S1x2048 : Shape := ⟨2, ![1, 2048]⟩
abbrev S2048x2048 : Shape := ⟨2, ![2048, 2048]⟩
abbrev S4x2048x4x512 : Shape := ⟨4, ![4, 2048, 4, 512]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x512x2048 : Shape := ⟨4, ![4, 4, 512, 2048]⟩
abbrev S2048 : Shape := ⟨1, ![2048]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 68
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x256x4x512, .f32⟩
  | .hbm, ⟨2, _⟩ => ⟨S4x256x4x512, .f32⟩
  | .hbm, ⟨3, _⟩ => ⟨S1x2048x2048, .f32⟩
  | .hbm, ⟨4, _⟩ => ⟨S1x2048x2048, .f32⟩
  | .hbm, ⟨5, _⟩ => ⟨S1x2048, .f32⟩
  | .hbm, ⟨6, _⟩ => ⟨S1x2048, .f32⟩
  | .hbm, ⟨7, _⟩ => ⟨S2048x2048, .f32⟩
  | .hbm, ⟨8, _⟩ => ⟨S4x2048x2048, .f32⟩
  | .hbm, ⟨9, _⟩ => ⟨S4x2048x4x512, .f32⟩
  | .hbm, ⟨10, _⟩ => ⟨S4x4x2048x256, .f32⟩
  | .hbm, ⟨11, _⟩ => ⟨S_, .f32⟩
  | .hbm, ⟨12, _⟩ => ⟨S4x4x2048x256, .f32⟩
  | .hbm, ⟨13, _⟩ => ⟨S4x4x2048x256, .f32⟩
  | .hbm, ⟨14, _⟩ => ⟨S_, .f32⟩
  | .hbm, ⟨15, _⟩ => ⟨S4x4x2048, .f32⟩
  | .hbm, ⟨16, _⟩ => ⟨S_, .f32⟩
  | .hbm, ⟨17, _⟩ => ⟨S4x4x2048, .f32⟩
  | .hbm, ⟨18, _⟩ => ⟨S4x4x2048, .f32⟩
  | .hbm, ⟨19, _⟩ => ⟨S4x4x2048x1, .f32⟩
  | .hbm, ⟨20, _⟩ => ⟨S4x4x2048x256, .f32⟩
  | .hbm, ⟨21, _⟩ => ⟨S4x4x2048x256, .f32⟩
  | .hbm, ⟨22, _⟩ => ⟨S4x4x2048x256, .f32⟩
  | .hbm, ⟨23, _⟩ => ⟨S_, .f32⟩
  | .hbm, ⟨24, _⟩ => ⟨S4x4x2048, .f32⟩
  | .hbm, ⟨25, _⟩ => ⟨S4x4x2048x1, .f32⟩
  | .hbm, ⟨26, _⟩ => ⟨S4x4x2048x256, .f32⟩
  | .hbm, ⟨27, _⟩ => ⟨S4x4x2048x256, .f32⟩
  | .hbm, ⟨28, _⟩ => ⟨S4x4x512x2048, .f32⟩
  | .hbm, ⟨29, _⟩ => ⟨S4x2048x4x512, .f32⟩
  | .hbm, ⟨30, _⟩ => ⟨S4x2048x2048, .f32⟩
  | .hbm, ⟨31, _⟩ => ⟨S2048x2048, .f32⟩
  | .hbm, ⟨32, _⟩ => ⟨S4x2048x2048, .f32⟩
  | .hbm, ⟨33, _⟩ => ⟨S_, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S2048, .f32⟩
  | .hbm, ⟨38, _⟩ => ⟨S2048, .f32⟩
  | .hbm, ⟨39, _⟩ => ⟨S_, .f32⟩
  | .hbm, ⟨40, _⟩ => ⟨S4x2048, .f32⟩
  | .hbm, ⟨41, _⟩ => ⟨S4x2048x1, .f32⟩
  | .hbm, ⟨42, _⟩ => ⟨S_, .f32⟩
  | .hbm, ⟨43, _⟩ => ⟨S4x2048x1, .f32⟩
  | .hbm, ⟨44, _⟩ => ⟨S4x2048x1, .f32⟩
  | .hbm, ⟨45, _⟩ => ⟨S4x2048x2048, .f32⟩
  | .hbm, ⟨46, _⟩ => ⟨S4x2048x2048, .f32⟩
  | .hbm, ⟨47, _⟩ => ⟨S4x2048x2048, .f32⟩
  | .hbm, ⟨48, _⟩ => ⟨S_, .f32⟩
  | .hbm, ⟨49, _⟩ => ⟨S4x2048, .f32⟩
  | .hbm, ⟨50, _⟩ => ⟨S4x2048x1, .f32⟩
  | .hbm, ⟨51, _⟩ => ⟨S_, .f32⟩
  | .hbm, ⟨52, _⟩ => ⟨S4x2048x1, .f32⟩
  | .hbm, ⟨53, _⟩ => ⟨S4x2048x1, .f32⟩
  | .hbm, ⟨54, _⟩ => ⟨S4x2048x2048, .f32⟩
  | .hbm, ⟨55, _⟩ => ⟨S4x2048x2048, .f32⟩
  | .hbm, ⟨56, _⟩ => ⟨S_, .f32⟩
  | .hbm, ⟨57, _⟩ => ⟨S4x2048x1, .f32⟩
  | .hbm, ⟨58, _⟩ => ⟨S4x2048x1, .f32⟩
  | .hbm, ⟨59, _⟩ => ⟨S4x2048x1, .f32⟩
  | .hbm, ⟨60, _⟩ => ⟨S4x2048x2048, .f32⟩
  | .hbm, ⟨61, _⟩ => ⟨S4x2048x2048, .f32⟩
  | .hbm, ⟨62, _⟩ => ⟨S1x1x2048, .f32⟩
  | .hbm, ⟨63, _⟩ => ⟨S4x2048x2048, .f32⟩
  | .hbm, ⟨64, _⟩ => ⟨S4x2048x2048, .f32⟩
  | .hbm, ⟨65, _⟩ => ⟨S1x1x2048, .f32⟩
  | .hbm, ⟨66, _⟩ => ⟨S4x2048x2048, .f32⟩
  | .hbm, ⟨67, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== Kernel8.lean ====
abbrev S128x8x2048 : Shape := ⟨3, ![128, 8, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S1024x2048 : Shape := ⟨2, ![1024, 2048]⟩
abbrev S2048x8192 : Shape := ⟨2, ![2048, 8192]⟩
abbrev S8192x2048 : Shape := ⟨2, ![8192, 2048]⟩
abbrev S2048 : Shape := ⟨1, ![2048]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 12
  | .smem => 0
  | _ => 0

abbrev bufTy : (tb : Table) → Fin (tcTables nBuf tb) → BufTy
  | .hbm, ⟨0, _⟩ => ⟨S128x8x2048, .f32⟩
  | .hbm, ⟨1, _⟩ => ⟨S1x2048x8192, .f32⟩
  | .hbm, ⟨2, _⟩ => ⟨S1x8192x2048, .f32⟩
  | .hbm, ⟨3, _⟩ => ⟨S1x2048, .f32⟩
  | .hbm, ⟨4, _⟩ => ⟨S1x2048, .f32⟩
  | .hbm, ⟨5, _⟩ => ⟨S1024x2048, .f32⟩
  | .hbm, ⟨6, _⟩ => ⟨S2048x8192, .f32⟩
  | .hbm, ⟨7, _⟩ => ⟨S2048x8192, .bf16⟩
  | .hbm, ⟨8, _⟩ => ⟨S8192x2048, .f32⟩
  | .hbm, ⟨9, _⟩ => ⟨S8192x2048, .bf16⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S1024x2048, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference8Ideal.lean ====
abbrev S128x8x2048 : Shape := ⟨3, ![128, 8, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S1024x2048 : Shape := ⟨2, ![1024, 2048]⟩
abbrev S2048x8192 : Shape := ⟨2, ![2048, 8192]⟩
abbrev S1024x8192 : Shape := ⟨2, ![1024, 8192]⟩
abbrev S_ : Shape := ⟨0, ![]⟩
abbrev S8192x2048 : Shape := ⟨2, ![8192, 2048]⟩
abbrev S2048 : Shape := ⟨1, ![2048]⟩
abbrev S1024 : Shape := ⟨1, ![1024]⟩
abbrev S1024x1 : Shape := ⟨2, ![1024, 1]⟩

abbrev nBuf : Space → Nat
  | .hbm => 49
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S1x2048x8192, .f32⟩
  | .hbm, ⟨2, _⟩ => ⟨S1x8192x2048, .f32⟩
  | .hbm, ⟨3, _⟩ => ⟨S1x2048, .f32⟩
  | .hbm, ⟨4, _⟩ => ⟨S1x2048, .f32⟩
  | .hbm, ⟨5, _⟩ => ⟨S1024x2048, .f32⟩
  | .hbm, ⟨6, _⟩ => ⟨S2048x8192, .f32⟩
  | .hbm, ⟨7, _⟩ => ⟨S1024x8192, .f32⟩
  | .hbm, ⟨8, _⟩ => ⟨S_, .f32⟩
  | .hbm, ⟨9, _⟩ => ⟨S1024x8192, .f32⟩
  | .hbm, ⟨10, _⟩ => ⟨S1024x8192, .f32⟩
  | .hbm, ⟨11, _⟩ => ⟨S1024x8192, .f32⟩
  | .hbm, ⟨12, _⟩ => ⟨S8192x2048, .f32⟩
  | .hbm, ⟨13, _⟩ => ⟨S1024x2048, .f32⟩
  | .hbm, ⟨14, _⟩ => ⟨S_, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S2048, .f32⟩
  | .hbm, ⟨19, _⟩ => ⟨S2048, .f32⟩
  | .hbm, ⟨20, _⟩ => ⟨S_, .f32⟩
  | .hbm, ⟨21, _⟩ => ⟨S1024, .f32⟩
  | .hbm, ⟨22, _⟩ => ⟨S1024x1, .f32⟩
  | .hbm, ⟨23, _⟩ => ⟨S_, .f32⟩
  | .hbm, ⟨24, _⟩ => ⟨S1024x1, .f32⟩
  | .hbm, ⟨25, _⟩ => ⟨S1024x1, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024, .f32⟩
  | .hbm, ⟨31, _⟩ => ⟨S1024x1, .f32⟩
  | .hbm, ⟨32, _⟩ => ⟨S_, .f32⟩
  | .hbm, ⟨33, _⟩ => ⟨S1024x1, .f32⟩
  | .hbm, ⟨34, _⟩ => ⟨S1024x1, .f32⟩
  | .hbm, ⟨35, _⟩ => ⟨S1024x2048, .f32⟩
  | .hbm, ⟨36, _⟩ => ⟨S1024x2048, .f32⟩
  | .hbm, ⟨37, _⟩ => ⟨S_, .f32⟩
  | .hbm, ⟨38, _⟩ => ⟨S1024x1, .f32⟩
  | .hbm, ⟨39, _⟩ => ⟨S1024x1, .f32⟩
  | .hbm, ⟨40, _⟩ => ⟨S1024x1, .f32⟩
  | .hbm, ⟨41, _⟩ => ⟨S1024x2048, .f32⟩
  | .hbm, ⟨42, _⟩ => ⟨S1024x2048, .f32⟩
  | .hbm, ⟨43, _⟩ => ⟨S1x2048, .f32⟩
  | .hbm, ⟨44, _⟩ => ⟨S1024x2048, .f32⟩
  | .hbm, ⟨45, _⟩ => ⟨S1024x2048, .f32⟩
  | .hbm, ⟨46, _⟩ => ⟨S1x2048, .f32⟩
  | .hbm, ⟨47, _⟩ => ⟨S1024x2048, .f32⟩
  | .hbm, ⟨48, _⟩ => ⟨S1024x2048, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel9.lean ====
abbrev S128x8x2048 : Shape := ⟨3, ![128, 8, 2048]⟩
abbrev S1x2048x5408 : Shape := ⟨3, ![1, 2048, 5408]⟩
abbrev S1024x2048 : Shape := ⟨2, ![1024, 2048]⟩
abbrev S1x5408x2048 : Shape := ⟨3, ![1, 5408, 2048]⟩
abbrev S1x288x2048 : Shape := ⟨3, ![1, 288, 2048]⟩
abbrev S288x2048 : Shape := ⟨2, ![288, 2048]⟩
abbrev S_ : Shape := ⟨0, ![]⟩
abbrev S512x2048 : Shape := ⟨2, ![512, 2048]⟩
abbrev S1024x5632 : Shape := ⟨2, ![1024, 5632]⟩
abbrev S1x512x2048 : Shape := ⟨3, ![1, 512, 2048]⟩
abbrev S1024x512 : Shape := ⟨2, ![1024, 512]⟩
abbrev S128x8x5632 : Shape := ⟨3, ![128, 8, 5632]⟩
abbrev S128x1x3360 : Shape := ⟨3, ![128, 1, 3360]⟩
abbrev S128x3360 : Shape := ⟨2, ![128, 3360]⟩

abbrev nBuf : Space → Nat
  | .hbm => 15
  | .vmem => 7
  | .smem => 0
  | _ => 0

abbrev bufTy : (tb : Table) → Fin (tcTables nBuf tb) → BufTy
  | .hbm, ⟨0, _⟩ => ⟨S128x8x2048, .f32⟩
  | .hbm, ⟨1, _⟩ => ⟨S1x2048x5408, .f32⟩
  | .hbm, ⟨2, _⟩ => ⟨S1024x2048, .f32⟩
  | .hbm, ⟨3, _⟩ => ⟨S1x5408x2048, .f32⟩
  | .hbm, ⟨4, _⟩ => ⟨S1x5408x2048, .f32⟩
  | .hbm, ⟨5, _⟩ => ⟨S1x288x2048, .f32⟩
  | .hbm, ⟨6, _⟩ => ⟨S288x2048, .f32⟩
  | .hbm, ⟨7, _⟩ => ⟨S_, .i32⟩
  | .hbm, ⟨8, _⟩ => ⟨S_, .f32⟩
  | .hbm, ⟨9, _⟩ => ⟨S512x2048, .f32⟩
  | .hbm, ⟨10, _⟩ => ⟨S512x2048, .bf16⟩
  | .hbm, ⟨11, _⟩ => ⟨S1024x5632, .f32⟩
  | .hbm, ⟨12, _⟩ => ⟨S128x8x5632, .f32⟩
  | .hbm, ⟨13, _⟩ => ⟨S128x1x3360, .f32⟩
  | .hbm, ⟨14, _⟩ => ⟨S128x3360, .f32⟩
  | .local _ .vmem, ⟨0, _⟩ => ⟨S1024x2048, .f32⟩
  | .local _ .vmem, ⟨1, _⟩ => ⟨S1x512x2048, .f32⟩
  | .local _ .vmem, ⟨2, _⟩ => ⟨S1x512x2048, .f32⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v3 : BitVec 1 := Scalar.cmpi .slt arg1 c10_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c10_i32_2 : BitVec 32 := 10#32
  let v6 : BitVec 1 := Scalar.cmpi .eq arg1 c10_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S128x8x2048 : Shape := ⟨3, ![128, 8, 2048]⟩
abbrev S1x2048x5408 : Shape := ⟨3, ![1, 2048, 5408]⟩
abbrev S2048x5408 : Shape := ⟨2, ![2048, 5408]⟩
abbrev S128x8x5408 : Shape := ⟨3, ![128, 8, 5408]⟩
abbrev S128x8x3360 : Shape := ⟨3, ![128, 8, 3360]⟩
abbrev S128x1x3360 : Shape := ⟨3, ![128, 1, 3360]⟩
abbrev S128x3360 : Shape := ⟨2, ![128, 3360]⟩

abbrev nBuf : Space → Nat
  | .hbm => 7
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S1x2048x5408, .f32⟩
  | .hbm, ⟨2, _⟩ => ⟨S2048x5408, .f32⟩
  | .hbm, ⟨3, _⟩ => ⟨S128x8x5408, .f32⟩
  | .hbm, ⟨4, _⟩ => ⟨S128x8x3360, .f32⟩
  | .hbm, ⟨5, _⟩ => ⟨S128x1x3360, .f32⟩
  | .hbm, ⟨6, _⟩ => ⟨S128x3360, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S128x8x5408 : Shape := ⟨3, ![128, 8, 5408]⟩
abbrev S1x128x1024 : Shape := ⟨3, ![1, 128, 1024]⟩
abbrev S1x128x3x1024 : Shape := ⟨4, ![1, 128, 3, 1024]⟩
abbrev S1x4x1024 : Shape := ⟨3, ![1, 4, 1024]⟩
abbrev S1x1024 : Shape := ⟨2, ![1, 1024]⟩
abbrev S1x8x128x128 : Shape := ⟨4, ![1, 8, 128, 128]⟩
abbrev S_ : Shape := ⟨0, ![]⟩
abbrev S128x8x5632 : Shape := ⟨3, ![128, 8, 5632]⟩
abbrev S128x1024 : Shape := ⟨2, ![128, 1024]⟩
abbrev S128x1x1024 : Shape := ⟨3, ![128, 1, 1024]⟩
abbrev S128x3x1024 : Shape := ⟨3, ![128, 3, 1024]⟩
abbrev S4x1024 : Shape := ⟨2, ![4, 1024]⟩
abbrev S1024 : Shape := ⟨1, ![1024]⟩
abbrev S8x128x128 : Shape := ⟨3, ![8, 128, 128]⟩
abbrev S128x8x1024 : Shape := ⟨3, ![128, 8, 1024]⟩
abbrev S8x8x1024 : Shape := ⟨3, ![8, 8, 1024]⟩
abbrev S8x1x1024 : Shape := ⟨3, ![8, 1, 1024]⟩
abbrev S8x3x1024 : Shape := ⟨3, ![8, 3, 1024]⟩
abbrev S8x16x1024 : Shape := ⟨3, ![8, 16, 1024]⟩
abbrev S64x1024 : Shape := ⟨2, ![64, 1024]⟩
abbrev S1x3x1024 : Shape := ⟨3, ![1, 3, 1024]⟩
abbrev S3x1024 : Shape := ⟨2, ![3, 1024]⟩
abbrev S1x1x1024 : Shape := ⟨3, ![1, 1, 1024]⟩
abbrev S1x8x1024 : Shape := ⟨3, ![1, 8, 1024]⟩
abbrev S8x1024 : Shape := ⟨2, ![8, 1024]⟩
abbrev S8x128 : Shape := ⟨2, ![8, 128]⟩
abbrev S1x128x128 : Shape := ⟨3, ![1, 128, 128]⟩
abbrev S128x128 : Shape := ⟨2, ![128, 128]⟩

abbrev nBuf : Space → Nat
  | .hbm => 32
  | .vmem => 26
  | .smem => 0
  | _ => 0

abbrev bufTy : (tb : Table) → Fin (tcTables nBuf tb) → BufTy
  | .hbm, ⟨0, _⟩ => ⟨S128x8x5408, .f32⟩
  | .hbm, ⟨1, _⟩ => ⟨S1x128x1024, .f32⟩
  | .hbm, ⟨2, _⟩ => ⟨S1x128x3x1024, .f32⟩
  | .hbm, ⟨3, _⟩ => ⟨S1x4x1024, .f32⟩
  | .hbm, ⟨4, _⟩ => ⟨S1x1024, .f32⟩
  | .hbm, ⟨5, _⟩ => ⟨S1x8x128x128, .f32⟩
  | .hbm, ⟨6, _⟩ => ⟨S1x1024, .f32⟩
  | .hbm, ⟨7, _⟩ => ⟨S1x8x128x128, .f32⟩
  | .hbm, ⟨8, _⟩ => ⟨S1x1024, .f32⟩
  | .hbm, ⟨9, _⟩ => ⟨S1x1024, .f32⟩
  | .hbm, ⟨10, _⟩ => ⟨S_, .i32⟩
  | .hbm, ⟨11, _⟩ => ⟨S_, .f32⟩
  | .hbm, ⟨12, _⟩ => ⟨S128x8x5632, .f32⟩
  | .hbm, ⟨13, _⟩ => ⟨S128x1024, .f32⟩
  | .hbm, ⟨14, _⟩ => ⟨S128x1x1024, .f32⟩
  | .hbm, ⟨15, _⟩ => ⟨S128x3x1024, .f32⟩
  | .hbm, ⟨16, _⟩ => ⟨S4x1024, .f32⟩
  | .hbm, ⟨17, _⟩ => ⟨S1024, .f32⟩
  | .hbm, ⟨18, _⟩ => ⟨S1x1024, .f32⟩
  | .hbm, ⟨19, _⟩ => ⟨S8x128x128, .f32⟩
  | .hbm, ⟨20, _⟩ => ⟨S8x128x128, .bf16⟩
  | .hbm, ⟨21, _⟩ => ⟨S1024, .f32⟩
  | .hbm, ⟨22, _⟩ => ⟨S1x1024, .f32⟩
  | .hbm, ⟨23, _⟩ => ⟨S8x128x128, .f32⟩
  | .hbm, ⟨24, _⟩ => ⟨S8x128x128, .bf16⟩
  | .hbm, ⟨25, _⟩ => ⟨S1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S128x8x1024, .f32⟩
  | .hbm, ⟨30, _⟩ => ⟨S128x1x1024, .f32⟩
  | .hbm, ⟨31, _⟩ => ⟨S128x3x1024, .f32⟩
  | .local _ .vmem, ⟨0, _⟩ => ⟨S8x8x1024, .f32⟩
  | .local _ .vmem, ⟨1, _⟩ => ⟨S8x8x1024, .f32⟩
  | .local _ .vmem, ⟨2, _⟩ => ⟨S8x8x1024, .f32⟩
  | .local _ .vmem, ⟨3, _⟩ => ⟨S8x8x1024, .f32⟩
  | .local _ .vmem, ⟨4, _⟩ => ⟨S8x1x1024, .f32⟩
  | .local _ .vmem, ⟨5, _⟩ => ⟨S8x1x1024, .f32⟩
  | .local _ .vmem, ⟨6, _⟩ => ⟨S8x3x1024, .f32⟩
  | .local _ .vmem, ⟨7, _⟩ => ⟨S8x3x1024, .f32⟩
  | .local _ .vmem, ⟨8, _⟩ => ⟨S4x1024, .f32⟩
  | .local _ .vmem, ⟨9, _⟩ => ⟨S1x1024, .f32⟩
  | .local _ .vmem, ⟨10, _⟩ => ⟨S8x128x128, .bf16⟩
  | .local _ .vmem, ⟨11, _⟩ => ⟨S1x1024, .f32⟩
  | .local _ .vmem, ⟨12, _⟩ => ⟨S8x128x128, .bf16⟩
  | .local _ .vmem, ⟨13, _⟩ => ⟨S1x1024, .f32⟩
  | .local _ .vmem, ⟨14, _⟩ => ⟨S1x1024, .f32⟩
  | .local _ .vmem, ⟨15, _⟩ => ⟨S8x8x1024, .f32⟩
  | .local _ .vmem, ⟨16, _⟩ => ⟨S8x8x1024, .f32⟩
  | .local _ .vmem, ⟨17, _⟩ => ⟨S8x1x1024, .f32⟩
  | .local _ .vmem, ⟨18, _⟩ => ⟨S8x1x1024, .f32⟩
  | .local _ .vmem, ⟨19, _⟩ => ⟨S8x3x1024, .f32⟩
  | .local _ .vmem, ⟨20, _⟩ => ⟨S8x3x1024, .f32⟩
  | .local _ .vmem, ⟨21, _⟩ => ⟨S8x16x1024, .f32⟩
  | .local _ .vmem, ⟨22, _⟩ => ⟨S8x1x1024, .f32⟩
  | .local _ .vmem, ⟨23, _⟩ => ⟨S64x1024, .f32⟩
  | .local _ .vmem, ⟨24, _⟩ => ⟨S64x1024, .f32⟩
  | .local _ .vmem, ⟨25, _⟩ => ⟨S64x1024, .f32⟩
  | _, _ => ⟨S128x8x5408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![16, 1], ![false, false]⟩

@[reducible] def k0_t1_loop : Scf.Loop 32 :=
  let c0_i32_916 : BitVec 32 := 0#32
  let c8_i32 : BitVec 32 := 8#32
  let v1150 : BitVec 32 := Scalar.addi c0_i32_916 c8_i32
  let c1_i32 : BitVec 32 := 1#32
  ⟨c0_i32_916, v1150, c1_i32⟩
def k0_off1 (k0_t1 : Fin k0_t1_loop.trips) (c0_i32_1062 : BitVec 32) : Fin 2 → Nat :=
  let c0_i32_916 : BitVec 32 := 0#32
  let c1_i32 : BitVec 32 := 1#32
  let arg21 : BitVec 32 := Scf.iv c0_i32_916 c1_i32 k0_t1
  let v1360 : BitVec 32 := Scalar.addi c0_i32_1062 arg21
  let v1361 : Index := Scalar.indexCast v1360
  let c0_1063 : Index := 0#32
  ![v1361.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S8x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S8x3x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference10Ideal.lean ====
abbrev S128x8x5408 : Shape := ⟨3, ![128, 8, 5408]⟩
abbrev S1x128x1024 : Shape := ⟨3, ![1, 128, 1024]⟩
abbrev S1x128x3x1024 : Shape := ⟨4, ![1, 128, 3, 1024]⟩
abbrev S1x4x1024 : Shape := ⟨3, ![1, 4, 1024]⟩
abbrev S1x1024 : Shape := ⟨2, ![1, 1024]⟩
abbrev S1x8x128x128 : Shape := ⟨4, ![1, 8, 128, 128]⟩
abbrev S128x3x1024 : Shape := ⟨3, ![128, 3, 1024]⟩
abbrev S128x8x1024 : Shape := ⟨3, ![128, 8, 1024]⟩
abbrev S128x11x1024 : Shape := ⟨3, ![128, 11, 1024]⟩

abbrev nBuf : Space → Nat
  | .hbm => 14
  | .vmem => 0
  | .smem => 0
  | _ => 0

abbrev bufTy : (tb : Table) → Fin (tcTables nBuf tb) → BufTy
  | .hbm, ⟨0, _⟩ => ⟨S128x8x5408, .f32⟩
  | .hbm, ⟨1, _⟩ => ⟨S1x128x1024, .f32⟩
  | .hbm, ⟨2, _⟩ => ⟨S1x128x3x1024, .f32⟩
  | .hbm, ⟨3, _⟩ => ⟨S1x4x1024, .f32⟩
  | .hbm, ⟨4, _⟩ => ⟨S1x1024, .f32⟩
  | .hbm, ⟨5, _⟩ => ⟨S1x8x128x128, .f32⟩
  | .hbm, ⟨6, _⟩ => ⟨S1x1024, .f32⟩
  | .hbm, ⟨7, _⟩ => ⟨S1x8x128x128, .f32⟩
  | .hbm, ⟨8, _⟩ => ⟨S1x1024, .f32⟩
  | .hbm, ⟨9, _⟩ => ⟨S1x1024, .f32⟩
  | .hbm, ⟨10, _⟩ => ⟨S128x3x1024, .f32⟩
  | .hbm, ⟨11, _⟩ => ⟨S128x8x1024, .f32⟩
  | .hbm, ⟨12, _⟩ => ⟨S128x11x1024, .f32⟩
  | .hbm, ⟨13, _⟩ => ⟨S128x3x1024, .f32⟩
  | _, _ => ⟨S128x8x5408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== Kernel11.lean ====
abbrev S4x2048x5408 : Shape := ⟨3, ![4, 2048, 5408]⟩
abbrev S1x4x1024 : Shape := ⟨3, ![1, 4, 1024]⟩
abbrev S1x4x3x1024 : Shape := ⟨4, ![1, 4, 3, 1024]⟩
abbrev S1x1024 : Shape := ⟨2, ![1, 1024]⟩
abbrev S1x8x128x128 : Shape := ⟨4, ![1, 8, 128, 128]⟩
abbrev S_ : Shape := ⟨0, ![]⟩
abbrev S4x2048x5632 : Shape := ⟨3, ![4, 2048, 5632]⟩
abbrev S4x1024 : Shape := ⟨2, ![4, 1024]⟩
abbrev S4x1x1024 : Shape := ⟨3, ![4, 1, 1024]⟩
abbrev S4x3x1024 : Shape := ⟨3, ![4, 3, 1024]⟩
abbrev S1024 : Shape := ⟨1, ![1024]⟩
abbrev S8x128x128 : Shape := ⟨3, ![8, 128, 128]⟩
abbrev S4x2048x1024 : Shape := ⟨3, ![4, 2048, 1024]⟩
abbrev S2x256x1024 : Shape := ⟨3, ![2, 256, 1024]⟩
abbrev S2x1x1024 : Shape := ⟨3, ![2, 1, 1024]⟩
abbrev S2x3x1024 : Shape := ⟨3, ![2, 3, 1024]⟩
abbrev S2x264x1024 : Shape := ⟨3, ![2, 264, 1024]⟩
abbrev S512x1024 : Shape := ⟨2, ![512, 1024]⟩
abbrev S1x3x1024 : Shape := ⟨3, ![1, 3, 1024]⟩
abbrev S3x1024 : Shape := ⟨2, ![3, 1024]⟩
abbrev S1x1x1024 : Shape := ⟨3, ![1, 1, 1024]⟩
abbrev S1x256x1024 : Shape := ⟨3, ![1, 256, 1024]⟩
abbrev S256x1024 : Shape := ⟨2, ![256, 1024]⟩
abbrev S256x128 : Shape := ⟨2, ![256, 128]⟩
abbrev S1x128x128 : Shape := ⟨3, ![1, 128, 128]⟩
abbrev S128x128 : Shape := ⟨2, ![128, 128]⟩

abbrev nBuf : Space → Nat
  | .hbm => 32
  | .vmem => 26
  | .smem => 0
  | _ => 0

abbrev bufTy : (tb : Table) → Fin (tcTables nBuf tb) → BufTy
  | .hbm, ⟨0, _⟩ => ⟨S4x2048x5408, .f32⟩
  | .hbm, ⟨1, _⟩ => ⟨S1x4x1024, .f32⟩
  | .hbm, ⟨2, _⟩ => ⟨S1x4x3x1024, .f32⟩
  | .hbm, ⟨3, _⟩ => ⟨S1x4x1024, .f32⟩
  | .hbm, ⟨4, _⟩ => ⟨S1x1024, .f32⟩
  | .hbm, ⟨5, _⟩ => ⟨S1x8x128x128, .f32⟩
  | .hbm, ⟨6, _⟩ => ⟨S1x1024, .f32⟩
  | .hbm, ⟨7, _⟩ => ⟨S1x8x128x128, .f32⟩
  | .hbm, ⟨8, _⟩ => ⟨S1x1024, .f32⟩
  | .hbm, ⟨9, _⟩ => ⟨S1x1024, .f32⟩
  | .hbm, ⟨10, _⟩ => ⟨S_, .i32⟩
  | .hbm, ⟨11, _⟩ => ⟨S_, .f32⟩
  | .hbm, ⟨12, _⟩ => ⟨S4x2048x5632, .f32⟩
  | .hbm, ⟨13, _⟩ => ⟨S4x1024, .f32⟩
  | .hbm, ⟨14, _⟩ => ⟨S4x1x1024, .f32⟩
  | .hbm, ⟨15, _⟩ => ⟨S4x3x1024, .f32⟩
  | .hbm, ⟨16, _⟩ => ⟨S4x1024, .f32⟩
  | .hbm, ⟨17, _⟩ => ⟨S1024, .f32⟩
  | .hbm, ⟨18, _⟩ => ⟨S1x1024, .f32⟩
  | .hbm, ⟨19, _⟩ => ⟨S8x128x128, .f32⟩
  | .hbm, ⟨20, _⟩ => ⟨S8x128x128, .bf16⟩
  | .hbm, ⟨21, _⟩ => ⟨S1024, .f32⟩
  | .hbm, ⟨22, _⟩ => ⟨S1x1024, .f32⟩
  | .hbm, ⟨23, _⟩ => ⟨S8x128x128, .f32⟩
  | .hbm, ⟨24, _⟩ => ⟨S8x128x128, .bf16⟩
  | .hbm, ⟨25, _⟩ => ⟨S1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S4x2048x1024, .f32⟩
  | .hbm, ⟨30, _⟩ => ⟨S4x1x1024, .f32⟩
  | .hbm, ⟨31, _⟩ => ⟨S4x3x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x256x1024, .f32⟩
  | .local _ .vmem, ⟨3, _⟩ => ⟨S2x256x1024, .f32⟩
  | .local _ .vmem, ⟨4, _⟩ => ⟨S2x1x1024, .f32⟩
  | .local _ .vmem, ⟨5, _⟩ => ⟨S2x1x1024, .f32⟩
  | .local _ .vmem, ⟨6, _⟩ => ⟨S2x3x1024, .f32⟩
  | .local _ .vmem, ⟨7, _⟩ => ⟨S2x3x1024, .f32⟩
  | .local _ .vmem, ⟨8, _⟩ => ⟨S4x1024, .f32⟩
  | .local _ .vmem, ⟨9, _⟩ => ⟨S1x1024, .f32⟩
  | .local _ .vmem, ⟨10, _⟩ => ⟨S8x128x128, .bf16⟩
  | .local _ .vmem, ⟨11, _⟩ => ⟨S1x1024, .f32⟩
  | .local _ .vmem, ⟨12, _⟩ => ⟨S8x128x128, .bf16⟩
  | .local _ .vmem, ⟨13, _⟩ => ⟨S1x1024, .f32⟩
  | .local _ .vmem, ⟨14, _⟩ => ⟨S1x1024, .f32⟩
  | .local _ .vmem, ⟨15, _⟩ => ⟨S2x256x1024, .f32⟩
  | .local _ .vmem, ⟨16, _⟩ => ⟨S2x256x1024, .f32⟩
  | .local _ .vmem, ⟨17, _⟩ => ⟨S2x1x1024, .f32⟩
  | .local _ .vmem, ⟨18, _⟩ => ⟨S2x1x1024, .f32⟩
  | .local _ .vmem, ⟨19, _⟩ => ⟨S2x3x1024, .f32⟩
  | .local _ .vmem, ⟨20, _⟩ => ⟨S2x3x1024, .f32⟩
  | .local _ .vmem, ⟨21, _⟩ => ⟨S2x264x1024, .f32⟩
  | .local _ .vmem, ⟨22, _⟩ => ⟨S2x1x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | _, _ => ⟨S4x2048x5408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_225 : BitVec 32 := 0#32
  let c256_i32 : BitVec 32 := 256#32
  let v298 : BitVec 32 := Scalar.addi c0_i32_225 c256_i32
  let c1_i32 : BitVec 32 := 1#32
  ⟨c0_i32_225, v298, c1_i32⟩
def k0_off1 (k0_t1 : Fin k0_t1_loop.trips) (c0_i32_263 : BitVec 32) : Fin 2 → Nat :=
  let c0_i32_225 : BitVec 32 := 0#32
  let c1_i32 : BitVec 32 := 1#32
  let arg21 : BitVec 32 := Scf.iv c0_i32_225 c1_i32 k0_t1
  let v352 : BitVec 32 := Scalar.addi c0_i32_263 arg21
  let v353 : Index := Scalar.indexCast v352
  let c0_264 : Index := 0#32
  ![v353.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S2x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S2x3x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference11Ideal.lean ====
abbrev S4x2048x5408 : Shape := ⟨3, ![4, 2048, 5408]⟩
abbrev S1x4x1024 : Shape := ⟨3, ![1, 4, 1024]⟩
abbrev S1x4x3x1024 : Shape := ⟨4, ![1, 4, 3, 1024]⟩
abbrev S1x1024 : Shape := ⟨2, ![1, 1024]⟩
abbrev S1x8x128x128 : Shape := ⟨4, ![1, 8, 128, 128]⟩
abbrev S4x3x1024 : Shape := ⟨3, ![4, 3, 1024]⟩
abbrev S4x2048x1024 : Shape := ⟨3, ![4, 2048, 1024]⟩
abbrev S4x2051x1024 : Shape := ⟨3, ![4, 2051, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x5408, .f32⟩
  | .hbm, ⟨1, _⟩ => ⟨S1x4x1024, .f32⟩
  | .hbm, ⟨2, _⟩ => ⟨S1x4x3x1024, .f32⟩
  | .hbm, ⟨3, _⟩ => ⟨S1x4x1024, .f32⟩
  | .hbm, ⟨4, _⟩ => ⟨S1x1024, .f32⟩
  | .hbm, ⟨5, _⟩ => ⟨S1x8x128x128, .f32⟩
  | .hbm, ⟨6, _⟩ => ⟨S1x1024, .f32⟩
  | .hbm, ⟨7, _⟩ => ⟨S1x8x128x128, .f32⟩
  | .hbm, ⟨8, _⟩ => ⟨S1x1024, .f32⟩
  | .hbm, ⟨9, _⟩ => ⟨S1x1024, .f32⟩
  | .hbm, ⟨10, _⟩ => ⟨S4x3x1024, .f32⟩
  | .hbm, ⟨11, _⟩ => ⟨S4x2048x1024, .f32⟩
  | .hbm, ⟨12, _⟩ => ⟨S4x2051x1024, .f32⟩
  | .hbm, ⟨13, _⟩ => ⟨S4x3x1024, .f32⟩
  | _, _ => ⟨S4x2048x5408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== Proof.Sums.lean ====
/-
  What the value proofs of this certificate share: indices, sums cut into blocks, and layer normalisation of a row
  over the extended reals.
-/
module

public import Idealize.ShloMosaic.Lib.Pipeline.Value
public import Idealize.ShloMosaic.Lib.Pointwise

@[expose] public section

noncomputable section

namespace Cert.Layer

open Idealize.ShloMosaic

/-- The two zero offsets of a load or store of a whole matrix. -/
theorem hz2 : (![0, 0] : Fin 2 → Nat) = fun _ => 0 := funext fun a => by fin_cases a <;> rfl

/-- The three zero offsets of a load or store of a whole rank-3 array. -/
theorem hz3 : (![0, 0, 0] : Fin 3 → Nat) = fun _ => 0 := funext fun a => by fin_cases a <;> rfl

/-- A sum over the first `n + b` numbers is the sum over the first `n` and the sum over the block of `b` after them. -/
theorem sum_range_block (h : ℕ → EReal) (n b : ℕ) :
    ∑ k ∈ Finset.range (n + b), h k = ∑ k ∈ Finset.range n, h k + ∑ k : Fin b, h (n + k.val) := by
  rw [Finset.sum_range_add, Finset.sum_range (fun x => h (n + x))]

/-- Layer normalisation of a row `y` of `n` elements: the row less its mean, times the reciprocal root of its variance
    plus `eps`, times the gain, plus the bias (`cn` is the row's length as an extended real). -/
def lnorm {n : ℕ} (cn eps : EReal) (y g b : Fin n → EReal) (j : Fin n) : EReal :=
  (y j - Ideal.div (∑ k, y k) cn)
      * Ideal.rsqrt (Ideal.div (∑ k, (y k - Ideal.div (∑ k, y k) cn) * (y k - Ideal.div (∑ k, y k) cn)) cn + eps)
      * g j + b j

end Cert.Layer

end
-- ==== Proof.MlpWalk.lean ====
/-
  The feed-forward block of one row, and the walk over the hidden units that computes it: eight blocks of 1024 units, the
  running sum kept from block to block. The two calls of the layer, for the two batches, both walk like this.
-/
module

public import proofs.«01_k».proof.Proof.Sums

@[expose] public section

noncomputable section

namespace Cert.Layer.MlpWalk

open Idealize.ShloMosaic

/-- The squared rectified linear unit. -/
def relu2 (v : EReal) : EReal := max v 0 * max v 0

/-- Hidden unit `k`'s share of the output's column `j` for the row `x` (zero past the last unit). -/
def share (w1 : Fin 2048 → Fin 8192 → EReal) (w2 : Fin 8192 → Fin 2048 → EReal) (x : Fin 2048 → EReal) (j : Fin 2048) (k : ℕ) : EReal :=
  if h : k < 8192 then relu2 (∑ d : Fin 2048, x d * w1 d ⟨k, h⟩) * w2 ⟨k, h⟩ j else 0

/-- The running sum `a`, grown by the shares of block `q`. -/
def grow (w1 : Fin 2048 → Fin 8192 → EReal) (w2 : Fin 8192 → Fin 2048 → EReal) (q : ℕ) (x : Fin 2048 → EReal) (j : Fin 2048) (a : EReal) : EReal :=
  a + ∑ k : Fin 1024, share w1 w2 x j (1024 * q + k.val)

/-- The feed-forward block's column `j` for the row `x`: the layer norm of the scaled residual plus the squared-ReLU product. -/
def ffn (w1 : Fin 2048 → Fin 8192 → EReal) (w2 : Fin 8192 → Fin 2048 → EReal) (g b x : Fin 2048 → EReal) (j : Fin 2048) : EReal :=
  lnorm (Ideal.ofBits .f32 0x45000000#32) (Ideal.ofBits .f32 0x3727C5AC#32)
    (fun d => Ideal.ofBits .f32 0x3F9837F0#32 * x d + ∑ k : Fin 8192, relu2 (∑ e : Fin 2048, x e * w1 e k) * w2 k d) g b j

/-- The shares of all hidden units, summed. -/
theorem sum_share (w1 : Fin 2048 → Fin 8192 → EReal) (w2 : Fin 8192 → Fin 2048 → EReal) (x : Fin 2048 → EReal) (j : Fin 2048) :
    ∑ k ∈ Finset.range 8192, share w1 w2 x j k = ∑ k : Fin 8192, relu2 (∑ e : Fin 2048, x e * w1 e k) * w2 k j := by
  rw [Finset.sum_range]
  exact Finset.sum_congr rfl fun k _ => by unfold share; rw [dif_pos k.isLt]

/-- A block product over blocks of the weights grows the sum by the block's shares. -/
theorem grow_of_blocks (w1 : Fin 2048 → Fin 8192 → EReal) (w2 : Fin 8192 → Fin 2048 → EReal) (q : ℕ) (hq : q < 8)
    (x : Fin 2048 → EReal) (j : Fin 2048) (a : EReal) (b1 : Fin 2048 → Fin 1024 → EReal) (b2 : Fin 1024 → Fin 2048 → EReal)
    (h1 : ∀ d k, b1 d k = w1 d ⟨1024 * q + k.val, by omega⟩) (h2 : ∀ k j, b2 k j = w2 ⟨1024 * q + k.val, by omega⟩ j) :
    a + ∑ k : Fin 1024, relu2 (∑ d : Fin 2048, x d * b1 d k) * b2 k j = grow w1 w2 q x j a := by
  unfold grow share
  congr 1
  refine Finset.sum_congr rfl fun k _ => ?_
  rw [dif_pos (by omega : 1024 * q + k.val < 8192)]
  simp only [h1, h2]

/-- THE WALK. Points run over blocks of 512 rows, eight points each. At a row block's first point the copy `cp` takes the rows
    `X` and the sum `acc` starts; at every later point the copy stays and the sum grows by the point's block. So after point
    `n` the copy holds its rows and the sum the shares of all units up to the point's block. -/
theorem walk {N : ℕ} (w1 : Fin 2048 → Fin 8192 → EReal) (w2 : Fin 8192 → Fin 2048 → EReal) (X : ℕ → Fin 2048 → EReal)
    (cp acc : (n : ℕ) → n < N → Fin 512 → Fin 2048 → EReal)
    (hcp0 : ∀ n hn, n % 8 = 0 → ∀ r d, cp n hn r d = X (512 * (n / 8) + r.val) d)
    (hacc0 : ∀ n hn, n % 8 = 0 → ∀ r j, acc n hn r j = grow w1 w2 (n % 8) (X (512 * (n / 8) + r.val)) j 0)
    (hcp : ∀ n (hn : n + 1 < N), ¬(n + 1) % 8 = 0 → cp (n + 1) hn = cp n (Nat.lt_of_succ_lt hn))
    (hacc : ∀ n (hn : n + 1 < N), ¬(n + 1) % 8 = 0 → ∀ r j, acc (n + 1) hn r j
      = grow w1 w2 ((n + 1) % 8) (cp n (Nat.lt_of_succ_lt hn) r) j (acc n (Nat.lt_of_succ_lt hn) r j)) :
    ∀ n hn, (∀ r d, cp n hn r d = X (512 * (n / 8) + r.val) d)
      ∧ ∀ r j, acc n hn r j = ∑ k ∈ Finset.range (1024 * (n % 8) + 1024), share w1 w2 (X (512 * (n / 8) + r.val)) j k := by
  have start : ∀ n hn, n % 8 = 0 → (∀ r d, cp n hn r d = X (512 * (n / 8) + r.val) d)
      ∧ ∀ r j, acc n hn r j = ∑ k ∈ Finset.range (1024 * (n % 8) + 1024), share w1 w2 (X (512 * (n / 8) + r.val)) j k :=
    fun n hn h0 => ⟨hcp0 n hn h0, fun r j => by rw [hacc0 n hn h0, sum_range_block, h0]; simp [grow]⟩
  intro n
  induction n with
  | zero => exact fun hn => start 0 hn rfl
  | succ n ih =>
    intro hn
    by_cases h0 : (n + 1) % 8 = 0
    · exact start (n + 1) hn h0
    · obtain ⟨ihx, iha⟩ := ih (Nat.lt_of_succ_lt hn)
      have hd : (n + 1) / 8 = n / 8 := by omega
      have hm : 1024 * ((n + 1) % 8) = 1024 * (n % 8) + 1024 := by omega
      rw [hd]
      refine ⟨fun r d => by rw [hcp n hn h0]; exact ihx r d, fun r j => ?_⟩
      rw [hacc n hn h0, iha, (funext (ihx r) : cp n _ r = X (512 * (n / 8) + r.val))]
      unfold grow
      rw [hm]
      exact (sum_range_block _ _ _).symm

end Cert.Layer.MlpWalk

end
-- ==== Proof.Mlp.lean ====
/-
  The feed-forward call of the prompt batch computes the layer's feed-forward block: at every row, the layer norm of the scaled
  residual plus the squared-ReLU product. The kernel walks the 8192 hidden units in eight blocks of 1024 and keeps the running
  sum in a scratch buffer (the walk of `MlpWalk`, over sixteen row blocks).
-/
module

public import proofs.«01_k».proof.Proof.MlpWalk
public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack

@[expose] public section

noncomputable section

namespace Cert.Layer.Mlp

open Cert.Kernel2Ideal Cert.Kernel2Ideal.Gen Cert.Kernel2Ideal.Value Idealize.ShloMosaic Idealize.ShloMosaic.TcCoe Idealize.SL.Sem
open Cert.Layer.MlpWalk

/-- The layer norm's step over blocks. -/
theorem pay4_apply (x acc : Vec Ideal S512x2048 .f32) (g b : Vec Ideal S1x2048 .f32) (r : Fin 512) (j : Fin 2048) :
    k0_pay4 x acc g b (ix2 r j)
      = lnorm (Ideal.ofBits .f32 0x45000000#32) (Ideal.ofBits .f32 0x3727C5AC#32)
          (fun d => Ideal.ofBits .f32 0x3F9837F0#32 * x (ix2 r d) + acc (ix2 r d)) (fun d => g (ix2 0 d)) (fun d => b (ix2 0 d)) j := by
  pointwise [k0_pay4, lnorm]

/-! ## The arrays the call reads, and its blocks -/

variable (m : (ℓ : Loc nD τ sig) → Buf (Elt Ideal) ℓ) (c : Dev nD)

/-- The rows of `x`. -/
def X (m : (ℓ : Loc nD τ sig) → Buf (Elt Ideal) ℓ) (c : Dev nD) : FVec Ideal S8192x2048 .f32 :=
  shapeCast _ (m ((c : Thread nD τ).loc main_arg0)) shapeCasts_S4x2048x2048_S8192x2048
/-- The first weight. -/
def W1 (m : (ℓ : Loc nD τ sig) → Buf (Elt Ideal) ℓ) (c : Dev nD) : FVec Ideal S2048x8192 .f32 :=
  shapeCast _ (m ((c : Thread nD τ).loc main_arg1)) shapeCasts_S1x2048x8192_S2048x8192
/-- The second weight. -/
def W2 (m : (ℓ : Loc nD τ sig) → Buf (Elt Ideal) ℓ) (c : Dev nD) : FVec Ideal S8192x2048 .f32 :=
  shapeCast _ (m ((c : Thread nD τ).loc main_arg2)) shapeCasts_S1x8192x2048_S8192x2048
/-- The layer norm's gain. -/
def gain (m : (ℓ : Loc nD τ sig) → Buf (Elt Ideal) ℓ) (c : Dev nD) : FVec Ideal S2048 .f32 :=
  shapeCast _ (m ((c : Thread nD τ).loc main_arg3)) shapeCasts_S1x2048_S2048
/-- The layer norm's bias. -/
def bias (m : (ℓ : Loc nD τ sig) → Buf (Elt Ideal) ℓ) (c : Dev nD) : FVec Ideal S2048 .f32 :=
  shapeCast _ (m ((c : Thread nD τ).loc main_arg4)) shapeCasts_S1x2048_S2048

theorem V_x : V m c main_v0 = X m c := by
  unfold V X; after_results <;> rfl
theorem V_w1 : V m c main_v2 = W1 m c := by
  unfold V W1; after_results <;> rfl
theorem V_w2 : V m c main_v4 = W2 m c := by
  unfold V W2; after_results <;> rfl
theorem V_g : V m c main_v6 = shapeCast S1x2048 (gain m c) shapeCasts_S2048_S1x2048 := by
  unfold V gain; after_results <;> rfl
theorem V_b : V m c main_v8 = shapeCast S1x2048 (bias m c) shapeCasts_S2048_S1x2048 := by
  unfold V bias; after_results <;> rfl

/-- Row `r` of the batch as a plain function of the row's number (zero past the last row). -/
def xrow (r : ℕ) (d : Fin 2048) : EReal := if h : r < 8192 then X m c (ix2 ⟨r, h⟩ d) else 0

/-- The weights as plain functions. -/
def w1 (d : Fin 2048) (k : Fin 8192) : EReal := W1 m c (ix2 d k)
def w2 (k : Fin 8192) (j : Fin 2048) : EReal := W2 m c (ix2 k j)

/-- Which block of each array every grid point reads: row block `t / 8`, block `t % 8` of the hidden units. -/
theorem idx : ∀ t : Fin cfg0.N, win0_0.index t = ![t.val / 8, 0] ∧ win0_1.index t = ![0, t.val % 8] ∧ win0_2.index t = ![t.val % 8, 0]
    ∧ win0_3.index t = ![0, 0] ∧ win0_4.index t = ![0, 0] :=
  (by decide +kernel : ∀ t : Fin grid0.N, _)

theorem t_lt (t : Fin cfg0.N) : t.val < 128 := lt_of_lt_of_eq t.isLt N_0

theorem iblk_x (t : Fin cfg0.N) (r : Fin 512) (d : Fin 2048) :
    (iblk m c 0 t : Vec Ideal S512x2048 .f32) (ix2 r d) = xrow m c (512 * (t.val / 8) + r.val) d := by
  have ht := t_lt t
  rw [xrow, dif_pos (by omega), ← V_x]
  blk_ext [iblk, idx t]

theorem iblk_w1 (t : Fin cfg0.N) (d : Fin 2048) (k : Fin 1024) :
    (iblk m c 1 t : Vec Ideal S2048x1024 .bf16) (ix2 d k) = w1 m c d ⟨1024 * (t.val % 8) + k.val, by omega⟩ := by
  rw [w1, ← V_w1]
  blk_ext [iblk, idx t]

theorem iblk_w2 (t : Fin cfg0.N) (k : Fin 1024) (j : Fin 2048) :
    (iblk m c 2 t : Vec Ideal S1024x2048 .bf16) (ix2 k j) = w2 m c ⟨1024 * (t.val % 8) + k.val, by omega⟩ j := by
  rw [w2, ← V_w2]
  blk_ext [iblk, idx t]

theorem iblk_g (t : Fin cfg0.N) (j : Fin 2048) : (iblk m c 3 t : Vec Ideal S1x2048 .f32) (ix2 0 j) = gain m c (ix1 j) := by
  have h : (iblk m c 3 t : Vec Ideal S1x2048 .f32) (ix2 0 j) = V m c main_v6 (ix2 0 j) := by
    blk_ext [iblk, idx t]
  rw [h, V_g]
  pointwise

theorem iblk_b (t : Fin cfg0.N) (j : Fin 2048) : (iblk m c 4 t : Vec Ideal S1x2048 .f32) (ix2 0 j) = bias m c (ix1 j) := by
  have h : (iblk m c 4 t : Vec Ideal S1x2048 .f32) (ix2 0 j) = V m c main_v8 (ix2 0 j) := by
    blk_ext [iblk, idx t]
  rw [h, V_b]
  pointwise

/-! ## The running sum -/

/-- The copy of a block of rows is the rows. -/
theorem copy_apply (t : Fin cfg0.N) (r : Fin 512) (d : Fin 2048) :
    k0_pay1 (iblk m c 0 t) (ix2 r d) = xrow m c (512 * (t.val / 8) + r.val) d := by
  refine Eq.trans ?_ (iblk_x m c t r d)
  pointwise [k0_pay1]

/-- One block's product grows the sum by that block's shares. -/
theorem step_apply (t : Fin cfg0.N) (x : Vec Ideal S512x2048 .bf16) (acc : Vec Ideal S512x2048 .f32) (r : Fin 512) (j : Fin 2048) :
    k0_pay3 x (iblk m c 1 t) acc (iblk m c 2 t) (ix2 r j)
      = grow (w1 m c) (w2 m c) (t.val % 8) (fun d => x (ix2 r d)) j (acc (ix2 r j)) := by
  refine Eq.trans ?_ (grow_of_blocks _ _ (t.val % 8) (by omega) _ j _ _ _ (iblk_w1 m c t) (iblk_w2 m c t))
  pointwise [k0_pay3, relu2]

/-- At a row block's first point the sum starts from zero. -/
theorem acc_start (t : Fin cfg0.N) (h0 : t.val % 8 = 0) :
    (outsAt0 m c t.val t.isLt).2.2 = k0_pay3 (k0_pay1 (iblk m c 0 t)) (iblk m c 1 t) (k0_pay2 (F := Ideal)) (iblk m c 2 t) :=
  (congrArg (fun p => p.2.2) (outsAt0_A m c t h0 (by omega))).trans (by frame_out)

/-- At a later point it grows by the block's product, whether or not the point is the row block's last. -/
theorem acc_later (n : ℕ) (hn : n + 1 < cfg0.N) (h0 : ¬(n + 1) % 8 = 0) :
    (outsAt0 m c (n + 1) hn).2.2 = k0_pay3 (outsAt0 m c n (Nat.lt_of_succ_lt hn)).2.1 (iblk m c 1 ⟨n + 1, hn⟩)
      (outsAt0 m c n (Nat.lt_of_succ_lt hn)).2.2 (iblk m c 2 ⟨n + 1, hn⟩) := by
  by_cases h1 : (n + 1) % 8 = 7
  · exact (congrArg (fun p => p.2.2) (outsAt0_C m c ⟨n + 1, hn⟩ h0 h1)).trans (by frame_out; simp only [read_unread_whole]; rfl)
  · exact (congrArg (fun p => p.2.2) (outsAt0_B m c ⟨n + 1, hn⟩ h0 h1)).trans (by frame_out; simp only [read_unread_whole]; rfl)

/-- After point `n` the first scratch holds the row block of `x`, the second the sum over the hidden units so far. -/
theorem carried : ∀ n hn, (∀ r d, (outsAt0 m c n hn).2.1 (ix2 r d) = xrow m c (512 * (n / 8) + r.val) d)
    ∧ ∀ r j, (outsAt0 m c n hn).2.2 (ix2 r j)
      = ∑ k ∈ Finset.range (1024 * (n % 8) + 1024), share (w1 m c) (w2 m c) (xrow m c (512 * (n / 8) + r.val)) j k := by
  refine walk (N := cfg0.N) (w1 m c) (w2 m c) (xrow m c) (fun n hn r d => (outsAt0 m c n hn).2.1 (ix2 r d))
    (fun n hn r j => (outsAt0 m c n hn).2.2 (ix2 r j)) (fun n hn h0 r d => ?_) (fun n hn h0 r j => ?_) (fun n hn h0 => ?_)
    (fun n hn h0 r j => by rw [acc_later m c n hn h0, step_apply])
  · have e : (outsAt0 m c n hn).2.1 = k0_pay1 (iblk m c 0 ⟨n, hn⟩) :=
      (congrArg (fun p => p.2.1) (outsAt0_A m c ⟨n, hn⟩ h0 (by show ¬n % 8 = 7; omega))).trans (by frame_out)
    rw [e]
    exact copy_apply m c ⟨n, hn⟩ r d
  · rw [acc_start m c ⟨n, hn⟩ h0, step_apply, (funext (copy_apply m c ⟨n, hn⟩ r) : (fun d => _) = _)]
    congr 1
    pointwise [k0_pay2]
  · have e : (outsAt0 m c (n + 1) hn).2.1 = (outsAt0 m c n (Nat.lt_of_succ_lt hn)).2.1 := by
      by_cases h1 : (n + 1) % 8 = 7
      · exact congrArg (fun p => p.2.1) (outsAt0_C m c ⟨n + 1, hn⟩ h0 h1)
      · exact congrArg (fun p => p.2.1) (outsAt0_B m c ⟨n + 1, hn⟩ h0 h1)
    rw [e]

/-! ## The result -/

/-- What the feed-forward block is worth at row `r`, column `j`. -/
def spec (X : FVec Ideal S8192x2048 .f32) (W1 : FVec Ideal S2048x8192 .f32) (W2 : FVec Ideal S8192x2048 .f32)
    (g b : FVec Ideal S2048 .f32) (r : Fin 8192) (j : Fin 2048) : EReal :=
  ffn (fun d k => W1 (ix2 d k)) (fun k j => W2 (ix2 k j)) (fun d => g (ix1 d)) (fun d => b (ix1 d)) (fun d => X (ix2 r d)) j

/-- At the last block of a row block the output block holds the rows' values. -/
theorem out_apply (t : Fin cfg0.N) (h1 : t.val % 8 = 7) (r : Fin 512) (j : Fin 2048) :
    (outsAt0 m c t.val t.isLt).1 (ix2 r j) = ffn (w1 m c) (w2 m c) (fun d => gain m c (ix1 d)) (fun d => bias m c (ix1 d))
      (xrow m c (512 * (t.val / 8) + r.val)) j := by
  obtain ⟨n, hn⟩ := t
  obtain ⟨n, rfl⟩ : ∃ k, n = k + 1 := ⟨n - 1, by dsimp only at h1; omega⟩
  have h1' : (n + 1) % 8 = 7 := h1
  have h0 : ¬(n + 1) % 8 = 0 := by omega
  have e : (outsAt0 m c (n + 1) hn).1 = k0_pay4 (iblk m c 0 ⟨n + 1, hn⟩) (outsAt0 m c (n + 1) hn).2.2 (iblk m c 3 ⟨n + 1, hn⟩) (iblk m c 4 ⟨n + 1, hn⟩) := by
    rw [acc_later m c n hn h0]
    exact (congrArg (fun p => p.1) (outsAt0_C m c ⟨n + 1, hn⟩ h0 h1)).trans (by frame_out; simp only [read_unread_whole]; rfl)
  have ha := fun d => (carried m c (n + 1) hn).2 r d
  rw [h1', show 1024 * 7 + 1024 = 8192 from rfl] at ha
  rw [e, pay4_apply]
  unfold ffn
  simp only [ha, sum_share, iblk_x, iblk_g, iblk_b]

/-- The call's result array at row `r`, column `j`. -/
theorem G5_apply (r : Fin 8192) (j : Fin 2048) :
    G5 m c (ix2 r j) = spec (X m c) (W1 m c) (W2 m c) (gain m c) (bias m c) r j := by
  have hp : pt5Of (ix2 r j) = 8 * (r.val / 512) + 7 := by
    show 8 * (1 * (r.val / 512 - 0) + 1 * (j.val / 2048 - 0)) + 7 = _
    omega
  have hlt : pt5Of (ix2 r j) < cfg0.N := by rw [hp]; show _ < grid0.N; rw [N_0]; omega
  unfold G5
  rw [dif_pos hlt, ← outsAt0_sweep m c _ hlt]
  have hl : loc5Of (ix2 r j) = ix2 ⟨r.val % 512, Nat.mod_lt _ (by decide)⟩ j := by
    funext a; apply Fin.ext
    match a with
    | ⟨0, _⟩ => rfl
    | ⟨1, _⟩ => show j.val % 2048 = j.val; omega
  rw [hl]
  refine (out_apply m c ⟨pt5Of (ix2 r j), hlt⟩ (by show pt5Of (ix2 r j) % 8 = 7; rw [hp]; omega) _ j).trans ?_
  have hr : 512 * (pt5Of (ix2 r j) / 8) + r.val % 512 = r.val := by rw [hp]; omega
  have hx : xrow m c (512 * (pt5Of (ix2 r j) / 8) + r.val % 512) = fun d => X m c (ix2 r d) := by
    rw [hr]
    exact funext fun d => dif_pos r.isLt
  show ffn _ _ _ _ (xrow m c (512 * (pt5Of (ix2 r j) / 8) + r.val % 512)) j = _
  rw [hx]
  rfl

end Cert.Layer.Mlp

namespace Cert.Layer.Mlp

open Cert.Reference2Ideal Cert.Reference2Ideal.Gen Cert.Reference2Ideal.Value Idealize.ShloMosaic Idealize.ShloMosaic.TcCoe
open Cert.Layer.MlpWalk

/-- The reference's result at row `r`, column `j`. -/
theorem res_apply (m : (ℓ : Loc nD τ sig) → Buf (Elt Ideal) ℓ) (c : Dev nD) (r : Fin 8192) (j : Fin 2048) :
    res_out0 m c (ix2 r j)
      = spec (shapeCast _ (m ((c.tc : Thread nD τ).loc main_arg0)) shapeCasts_S4x2048x2048_S8192x2048)
          (shapeCast _ (m ((c.tc : Thread nD τ).loc main_arg1)) shapeCasts_S1x2048x8192_S2048x8192)
          (shapeCast _ (m ((c.tc : Thread nD τ).loc main_arg2)) shapeCasts_S1x8192x2048_S8192x2048)
          (shapeCast _ (m ((c.tc : Thread nD τ).loc main_arg3)) shapeCasts_S1x2048_S2048)
          (shapeCast _ (m ((c.tc : Thread nD τ).loc main_arg4)) shapeCasts_S1x2048_S2048) r j := by
  unfold res_out0 res_main_v35
  generalize shapeCast _ (m ((c.tc : Thread nD τ).loc main_arg0)) shapeCasts_S4x2048x2048_S8192x2048 = x
  generalize shapeCast _ (m ((c.tc : Thread nD τ).loc main_arg1)) shapeCasts_S1x2048x8192_S2048x8192 = w1
  generalize shapeCast _ (m ((c.tc : Thread nD τ).loc main_arg2)) shapeCasts_S1x8192x2048_S8192x2048 = w2
  generalize shapeCast _ (m ((c.tc : Thread nD τ).loc main_arg3)) shapeCasts_S1x2048_S2048 = g
  generalize shapeCast _ (m ((c.tc : Thread nD τ).loc main_arg4)) shapeCasts_S1x2048_S2048 = b
  pointwise [spec, ffn, lnorm, relu2]

end Cert.Layer.Mlp

end
-- ==== Proof.MlpSample.lean ====
/-
  The feed-forward call of the sample batch computes the layer's feed-forward block at each of its 1024 rows: the walk of
  `MlpWalk` over two row blocks.
-/
module

public import proofs.«01_k».proof.Proof.MlpWalk
public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack

@[expose] public section

noncomputable section

namespace Cert.Layer.MlpSample

open Cert.Kernel8Ideal Cert.Kernel8Ideal.Gen Cert.Kernel8Ideal.Value Idealize.ShloMosaic Idealize.ShloMosaic.TcCoe Idealize.SL.Sem
open Cert.Layer.MlpWalk

variable (m : (ℓ : Loc nD τ sig) → Buf (Elt Ideal) ℓ) (c : Dev nD)

/-- Row `r` of the batch, its member and its position read off one number (zero past the last row). -/
def xrow (x : FVec Ideal S128x8x2048 .f32) (r : ℕ) (d : Fin 2048) : EReal :=
  if h : r < 1024 then x (ix3 ⟨r / 8, by omega⟩ ⟨r % 8, by omega⟩ d) else 0

/-- The rows of the batch. -/
def X : FVec Ideal S128x8x2048 .f32 := m ((c : Thread nD τ).loc main_arg0)
/-- The first weight. -/
def W1 : FVec Ideal S1x2048x8192 .f32 := m ((c : Thread nD τ).loc main_arg1)
/-- The second weight. -/
def W2 : FVec Ideal S1x8192x2048 .f32 := m ((c : Thread nD τ).loc main_arg2)
/-- The layer norm's gain. -/
def gain : FVec Ideal S1x2048 .f32 := m ((c : Thread nD τ).loc main_arg3)
/-- The layer norm's bias. -/
def bias : FVec Ideal S1x2048 .f32 := m ((c : Thread nD τ).loc main_arg4)

/-- Which block of each array every grid point reads: row block `t / 8`, block `t % 8` of the hidden units. -/
theorem idx : ∀ t : Fin cfg0.N, win0_0.index t = ![t.val / 8, 0] ∧ win0_1.index t = ![0, t.val % 8] ∧ win0_2.index t = ![t.val % 8, 0]
    ∧ win0_3.index t = ![0, 0] ∧ win0_4.index t = ![0, 0] ∧ win0_5.index t = ![t.val / 8, 0] :=
  (by decide +kernel : ∀ t : Fin grid0.N, _)

theorem t_lt (t : Fin cfg0.N) : t.val < 16 := lt_of_lt_of_eq t.isLt N_0

theorem iblk_x (t : Fin cfg0.N) (r : Fin 512) (d : Fin 2048) :
    (iblk m c 0 t : Vec Ideal S512x2048 .f32) (ix2 r d) = xrow (X m c) (512 * (t.val / 8) + r.val) d := by
  have ht := t_lt t
  have h : (iblk m c 0 t : Vec Ideal S512x2048 .f32) (ix2 r d) = V m c main_v0 (ix2 ⟨512 * (t.val / 8) + r.val, by omega⟩ d) := by
    blk_ext [iblk, idx t]
  rw [h, xrow, dif_pos (by omega)]
  entry_read
  pointwise [X]

theorem iblk_w1 (t : Fin cfg0.N) (d : Fin 2048) (k : Fin 1024) :
    (iblk m c 1 t : Vec Ideal S2048x1024 .bf16) (ix2 d k) = W1 m c (ix3 0 d ⟨1024 * (t.val % 8) + k.val, by omega⟩) := by
  have h : (iblk m c 1 t : Vec Ideal S2048x1024 .bf16) (ix2 d k) = V m c main_v2 (ix2 d ⟨1024 * (t.val % 8) + k.val, by omega⟩) := by
    blk_ext [iblk, idx t]
  rw [h]
  entry_read
  pointwise [W1]

theorem iblk_w2 (t : Fin cfg0.N) (k : Fin 1024) (j : Fin 2048) :
    (iblk m c 2 t : Vec Ideal S1024x2048 .bf16) (ix2 k j) = W2 m c (ix3 0 ⟨1024 * (t.val % 8) + k.val, by omega⟩ j) := by
  have h : (iblk m c 2 t : Vec Ideal S1024x2048 .bf16) (ix2 k j) = V m c main_v4 (ix2 ⟨1024 * (t.val % 8) + k.val, by omega⟩ j) := by
    blk_ext [iblk, idx t]
  rw [h]
  entry_read
  pointwise [W2]

theorem iblk_g (t : Fin cfg0.N) (j : Fin 2048) : (iblk m c 3 t : Vec Ideal S1x2048 .f32) (ix2 0 j) = gain m c (ix2 0 j) := by
  have h : (iblk m c 3 t : Vec Ideal S1x2048 .f32) (ix2 0 j) = V m c main_v6 (ix2 0 j) := by
    blk_ext [iblk, idx t]
  rw [h]
  entry_read
  pointwise [gain]

theorem iblk_b (t : Fin cfg0.N) (j : Fin 2048) : (iblk m c 4 t : Vec Ideal S1x2048 .f32) (ix2 0 j) = bias m c (ix2 0 j) := by
  have h : (iblk m c 4 t : Vec Ideal S1x2048 .f32) (ix2 0 j) = V m c main_v8 (ix2 0 j) := by
    blk_ext [iblk, idx t]
  rw [h]
  entry_read
  pointwise [bias]

/-- One block's product over the blocks at point `t` grows the sum by that block's shares. -/
theorem pay3_grow (t : Fin cfg0.N) (x : Vec Ideal S512x2048 .bf16) (acc : Vec Ideal S512x2048 .f32) (r : Fin 512) (j : Fin 2048) :
    k0_pay3 x (iblk m c 1 t) acc (iblk m c 2 t) (ix2 r j)
      = grow (fun d k => W1 m c (ix3 0 d k)) (fun k j => W2 m c (ix3 0 k j)) (t.val % 8) (fun d => x (ix2 r d)) j (acc (ix2 r j)) := by
  refine Eq.trans ?_ (grow_of_blocks _ _ (t.val % 8) (by omega) _ j _ _ _ (iblk_w1 m c t) (iblk_w2 m c t))
  pointwise [k0_pay3, relu2]

/-- The layer norm's step over blocks. -/
theorem pay4_apply (x acc : Vec Ideal S512x2048 .f32) (g b : Vec Ideal S1x2048 .f32) (r : Fin 512) (j : Fin 2048) :
    k0_pay4 x acc g b (ix2 r j)
      = lnorm (Ideal.ofBits .f32 0x45000000#32) (Ideal.ofBits .f32 0x3727C5AC#32)
          (fun d => Ideal.ofBits .f32 0x3F9837F0#32 * x (ix2 r d) + acc (ix2 r d)) (fun d => g (ix2 0 d)) (fun d => b (ix2 0 d)) j := by
  pointwise [k0_pay4, lnorm]

/-- At a row block's first point the copy takes the rows and the sum the first block's product. -/
theorem at_start (t : Fin cfg0.N) (h0 : t.val % 8 = 0) :
    (outsAt0 m c t.val t.isLt).2.1 = k0_pay1 (iblk m c 0 t)
    ∧ (outsAt0 m c t.val t.isLt).2.2 = k0_pay3 (k0_pay1 (iblk m c 0 t)) (iblk m c 1 t) (k0_pay2 (F := Ideal)) (iblk m c 2 t) := by
  rw [outsAt0_A m c t h0 (by omega)]
  constructor <;> frame_out

/-- At a later point the copy stays and the sum grows by the block's product. -/
theorem at_later (n : ℕ) (hn : n + 1 < cfg0.N) (h0 : ¬(n + 1) % 8 = 0) :
    (outsAt0 m c (n + 1) hn).2.1 = (outsAt0 m c n (Nat.lt_of_succ_lt hn)).2.1
    ∧ (outsAt0 m c (n + 1) hn).2.2 = k0_pay3 (outsAt0 m c n (Nat.lt_of_succ_lt hn)).2.1 (iblk m c 1 ⟨n + 1, hn⟩)
        (outsAt0 m c n (Nat.lt_of_succ_lt hn)).2.2 (iblk m c 2 ⟨n + 1, hn⟩) := by
  by_cases h1 : (n + 1) % 8 = 7
  · have e := outsAt0_C m c ⟨n + 1, hn⟩ h0 h1
    exact ⟨congrArg (fun p => p.2.1) e, (congrArg (fun p => p.2.2) e).trans (by frame_out; simp only [read_unread_whole]; rfl)⟩
  · have e := outsAt0_B m c ⟨n + 1, hn⟩ h0 h1
    exact ⟨congrArg (fun p => p.2.1) e, (congrArg (fun p => p.2.2) e).trans (by frame_out; simp only [read_unread_whole]; rfl)⟩

/-- At a row block's last point the output block is the layer norm's step over the finished sum. -/
theorem at_last (n : ℕ) (hn : n + 1 < cfg0.N) (h1 : (n + 1) % 8 = 7) :
    (outsAt0 m c (n + 1) hn).1 = k0_pay4 (iblk m c 0 ⟨n + 1, hn⟩) (outsAt0 m c (n + 1) hn).2.2 (iblk m c 3 ⟨n + 1, hn⟩) (iblk m c 4 ⟨n + 1, hn⟩) := by
  have h0 : ¬(n + 1) % 8 = 0 := by omega
  rw [(at_later m c n hn h0).2]
  exact (congrArg (fun p => p.1) (outsAt0_C m c ⟨n + 1, hn⟩ h0 h1)).trans (by frame_out; simp only [read_unread_whole]; rfl)

/-- After point `n` the copy holds its rows and the sum the shares of all units up to the point's block. -/
theorem carried : ∀ n hn, (∀ r d, (outsAt0 m c n hn).2.1 (ix2 r d) = xrow (X m c) (512 * (n / 8) + r.val) d)
    ∧ ∀ r j, (outsAt0 m c n hn).2.2 (ix2 r j) = ∑ k ∈ Finset.range (1024 * (n % 8) + 1024),
        share (fun d k => W1 m c (ix3 0 d k)) (fun k j => W2 m c (ix3 0 k j)) (xrow (X m c) (512 * (n / 8) + r.val)) j k :=
  walk (N := cfg0.N) (fun d k => W1 m c (ix3 0 d k)) (fun k j => W2 m c (ix3 0 k j)) (xrow (X m c))
  (fun n hn r d => (outsAt0 m c n hn).2.1 (ix2 r d)) (fun n hn r j => (outsAt0 m c n hn).2.2 (ix2 r j))
  (fun n hn h0 r d => by
    rw [(at_start m c ⟨n, hn⟩ h0).1]
    refine Eq.trans ?_ (iblk_x m c ⟨n, hn⟩ r d)
    pointwise [k0_pay1])
  (fun n hn h0 r j => by
    rw [(at_start m c ⟨n, hn⟩ h0).2, pay3_grow]
    have e : (fun d => k0_pay1 (iblk m c 0 ⟨n, hn⟩) (ix2 r d)) = xrow (X m c) (512 * (n / 8) + r.val) := funext fun d => by
      refine Eq.trans ?_ (iblk_x m c ⟨n, hn⟩ r d)
      pointwise [k0_pay1]
    rw [e]
    congr 1
    pointwise [k0_pay2])
  (fun n hn h0 => by rw [(at_later m c n hn h0).1])
  (fun n hn h0 r j => by rw [(at_later m c n hn h0).2, pay3_grow])

/-- What the feed-forward block is worth at row `r`, column `j`. -/
def spec (x : FVec Ideal S128x8x2048 .f32) (w1 : FVec Ideal S1x2048x8192 .f32) (w2 : FVec Ideal S1x8192x2048 .f32)
    (g b : FVec Ideal S1x2048 .f32) : FVec Ideal S1024x2048 .f32 := fun i =>
  ffn (fun d k => w1 (ix3 0 d k)) (fun k j => w2 (ix3 0 k j)) (fun d => g (ix2 0 d)) (fun d => b (ix2 0 d)) (xrow x (i 0).val) (i 1)

/-- At a row block's last point the output block holds the rows' values. -/
theorem out_apply (t : Fin cfg0.N) (h1 : t.val % 8 = 7) (r : Fin 512) (j : Fin 2048) :
    (outsAt0 m c t.val t.isLt).1 (ix2 r j)
      = ffn (fun d k => W1 m c (ix3 0 d k)) (fun k j => W2 m c (ix3 0 k j)) (fun d => gain m c (ix2 0 d)) (fun d => bias m c (ix2 0 d))
          (xrow (X m c) (512 * (t.val / 8) + r.val)) j := by
  obtain ⟨n, hn⟩ := t
  obtain ⟨n, rfl⟩ : ∃ k, n = k + 1 := ⟨n - 1, by dsimp only at h1; omega⟩
  have h1' : (n + 1) % 8 = 7 := h1
  rw [at_last m c n hn h1, pay4_apply]
  have ha := fun d => (carried m c (n + 1) hn).2 r d
  rw [h1', show 1024 * 7 + 1024 = 8192 from rfl] at ha
  unfold ffn
  simp only [ha, sum_share, iblk_x, iblk_g, iblk_b]

/-- The call's result array. -/
theorem G5_eq : G5 m c = spec (X m c) (W1 m c) (W2 m c) (gain m c) (bias m c) := by
  funext i
  obtain ⟨r, j, rfl⟩ : ∃ r j, i = ix2 r j := ⟨i 0, i 1, eq_ix2 i⟩
  have hp : pt5Of (ix2 r j) = 8 * (r.val / 512) + 7 := by
    show 8 * (1 * (r.val / 512 - 0) + 1 * (j.val / 2048 - 0)) + 7 = _
    omega
  have hlt : pt5Of (ix2 r j) < cfg0.N := by rw [hp]; show _ < grid0.N; rw [N_0]; omega
  unfold G5
  rw [dif_pos hlt, ← outsAt0_sweep m c _ hlt]
  have hl : loc5Of (ix2 r j) = ix2 ⟨r.val % 512, Nat.mod_lt _ (by decide)⟩ j := by
    funext a; apply Fin.ext
    match a with
    | ⟨0, _⟩ => rfl
    | ⟨1, _⟩ => show j.val % 2048 = j.val; omega
  rw [hl, out_apply m c ⟨pt5Of (ix2 r j), hlt⟩ (by show pt5Of (ix2 r j) % 8 = 7; rw [hp]; omega) _ j]
  have hr : 512 * (pt5Of (ix2 r j) / 8) + r.val % 512 = r.val := by rw [hp]; omega
  show ffn _ _ _ _ (xrow _ (512 * (pt5Of (ix2 r j) / 8) + r.val % 512)) j = ffn _ _ _ _ (xrow _ r.val) j
  rw [hr]

end Cert.Layer.MlpSample

namespace Cert.Layer.MlpSample

open Cert.Reference8Ideal Cert.Reference8Ideal.Gen Cert.Reference8Ideal.Value Idealize.ShloMosaic Idealize.ShloMosaic.TcCoe
open Cert.Layer.MlpWalk

/-- The rows of the batch read off the array flattened to two axes. -/
theorem flat_row (x : FVec Ideal S128x8x2048 .f32) (r : Fin 1024) (d : Fin 2048) :
    shapeCast S1024x2048 x shapeCasts_S128x8x2048_S1024x2048 (ix2 r d) = xrow x r.val d := by
  rw [xrow, dif_pos r.isLt]
  pointwise

/-- The reference's operations at row `r`, column `j`, over the flattened rows. -/
theorem res_rows (m : (ℓ : Loc nD τ sig) → Buf (Elt Ideal) ℓ) (c : Dev nD) (r : Fin 1024) (j : Fin 2048) :
    res_out0 m c (ix2 r j)
      = ffn (fun d k => shapeCast S2048x8192 (m ((c.tc : Thread nD τ).loc main_arg1)) shapeCasts_S1x2048x8192_S2048x8192 (ix2 d k))
          (fun k j => shapeCast S8192x2048 (m ((c.tc : Thread nD τ).loc main_arg2)) shapeCasts_S1x8192x2048_S8192x2048 (ix2 k j))
          (fun d => shapeCast S2048 (m ((c.tc : Thread nD τ).loc main_arg3)) shapeCasts_S1x2048_S2048 (ix1 d))
          (fun d => shapeCast S2048 (m ((c.tc : Thread nD τ).loc main_arg4)) shapeCasts_S1x2048_S2048 (ix1 d))
          (fun d => shapeCast S1024x2048 (m ((c.tc : Thread nD τ).loc main_arg0)) shapeCasts_S128x8x2048_S1024x2048 (ix2 r d)) j := by
  unfold res_out0 res_main_v35
  generalize shapeCast _ (m ((c.tc : Thread nD τ).loc main_arg0)) shapeCasts_S128x8x2048_S1024x2048 = x
  generalize shapeCast _ (m ((c.tc : Thread nD τ).loc main_arg1)) shapeCasts_S1x2048x8192_S2048x8192 = w1
  generalize shapeCast _ (m ((c.tc : Thread nD τ).loc main_arg2)) shapeCasts_S1x8192x2048_S8192x2048 = w2
  generalize shapeCast _ (m ((c.tc : Thread nD τ).loc main_arg3)) shapeCasts_S1x2048_S2048 = g
  generalize shapeCast _ (m ((c.tc : Thread nD τ).loc main_arg4)) shapeCasts_S1x2048_S2048 = b
  pointwise [ffn, lnorm, relu2]

/-- The block's value with the weights flattened is its value with the weights as the arguments hold them. -/
theorem spec_flat (x : FVec Ideal S128x8x2048 .f32) (w1 : FVec Ideal S1x2048x8192 .f32) (w2 : FVec Ideal S1x8192x2048 .f32)
    (g b : FVec Ideal S1x2048 .f32) (r : Fin 1024) (j : Fin 2048) :
    ffn (fun d k => shapeCast S2048x8192 w1 shapeCasts_S1x2048x8192_S2048x8192 (ix2 d k))
        (fun k j => shapeCast S8192x2048 w2 shapeCasts_S1x8192x2048_S8192x2048 (ix2 k j))
        (fun d => shapeCast S2048 g shapeCasts_S1x2048_S2048 (ix1 d)) (fun d => shapeCast S2048 b shapeCasts_S1x2048_S2048 (ix1 d))
        (fun d => shapeCast S1024x2048 x shapeCasts_S128x8x2048_S1024x2048 (ix2 r d)) j
      = spec x w1 w2 g b (ix2 r j) := by
  have e1 : (fun d k => shapeCast S2048x8192 w1 shapeCasts_S1x2048x8192_S2048x8192 (ix2 d k)) = fun d k => w1 (ix3 0 d k) :=
    funext fun d => funext fun k => by pointwise
  have e2 : (fun k j => shapeCast S8192x2048 w2 shapeCasts_S1x8192x2048_S8192x2048 (ix2 k j)) = fun k j => w2 (ix3 0 k j) :=
    funext fun k => funext fun j => by pointwise
  have e3 : (fun d => shapeCast S2048 g shapeCasts_S1x2048_S2048 (ix1 d)) = fun d => g (ix2 0 d) := funext fun d => by pointwise
  have e4 : (fun d => shapeCast S2048 b shapeCasts_S1x2048_S2048 (ix1 d)) = fun d => b (ix2 0 d) := funext fun d => by pointwise
  have e5 : (fun d => shapeCast S1024x2048 x shapeCasts_S128x8x2048_S1024x2048 (ix2 r d)) = xrow x r.val := funext fun d => flat_row x r d
  rw [e1, e2, e3, e4, e5]
  rfl

end Cert.Layer.MlpSample

end
-- ==== Proof.MemKV.lean ====
/-
  The memory's key/value projection: the call multiplies the 1024 memory rows by the weight, one block of 512 columns
  at a time, from a copy of the rows kept in a scratch buffer.
-/
module

public import proofs.«01_k».proof.Proof.Sums
public import proofs.«01_k».proof.Proof.Gen.Kernel3Ideal.Value
public import proofs.«01_k».proof.Proof.Gen.Reference3Ideal.Run

@[expose] public section

noncomputable section

namespace Cert.Layer.MemKV

open Cert.Kernel3Ideal Cert.Kernel3Ideal.Gen Cert.Kernel3Ideal.Value Idealize.ShloMosaic Idealize.ShloMosaic.TcCoe Idealize.SL.Sem
open Idealize.ShloMosaic.Pipeline (Dat)

/-! ## What one visit of the body leaves behind -/

section Body

variable {F : FTy → Type} [FloatOps F]
variable (c : Dev nD) (i : grid0.Coords) (arg2 : Memref sig .tc .vmem S1024x2048 .f32) (harg2 : arg2.IsWhole)
  (arg3 : Memref sig .tc .vmem S1x2048x512 .f32) (harg3 : arg3.IsWhole) (arg4 : Memref sig .tc .vmem S1024x512 .f32) (harg4 : arg4.IsWhole)
  (arg5 : Memref sig .tc .vmem S1024x2048 .bf16) (harg5 : arg5.IsWhole) (x0 : Vec F S1024x2048 .f32) (x1 : Vec F S1x2048x512 .f32)

/-- At the first column block the body stores a copy of the rows. -/
theorem copy_A (hc0 : cond0_0 i) (hc1 : cond0_1 i) :
    sout0_A_0 c i arg2 harg2 arg3 harg3 arg4 harg4 arg5 harg5 hc0 hc1 x0 x1 = k0_pay1 x0 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_unit_zero hz2]
  simp only [View.readAt_eq_ld, harg2.read_unread, View.ld_unit_zero (S := S1024x2048) hz2]

/-- At the first column block the product is of the rows just copied. -/
theorem out_A (hc0 : cond0_0 i) (hc1 : cond0_1 i) :
    out0_A_2 c i arg2 harg2 arg3 harg3 arg4 harg4 arg5 harg5 hc0 hc1 x0 x1 = k0_pay2 (k0_pay1 x0) x1 := by
  unfold out0_A_2
  rw [View.read_writes_eq_canon _ _ _ (cover0_A_2 c i arg2 harg2 arg3 harg3 arg4 harg4 arg5 harg5 hc0 hc1 x0 x1)]
  unfold kernelRun0_A
  dsimp only
  sl_unfold_words
  rw [View.canon_unit_zero hz2]
  simp only [View.readAt_eq_ld, harg2.read_unread, harg3.read_unread, View.ld_unit_zero (S := S1024x2048) hz2,
    View.ld_unit_zero (S := S1x2048x512) hz3, View.readCov_unit_zero (S := S1024x2048) _ hz2]

/-- At a later column block the product is of the copy. -/
theorem out_B (hc0 : ¬cond0_0 i) (hc1 : cond0_1 i) (xs0 : Vec F S1024x2048 .bf16) :
    out0_B_2 c i arg2 harg2 arg3 harg3 arg4 harg4 arg5 harg5 hc0 hc1 x0 x1 xs0 = k0_pay2 xs0 x1 := by
  unfold out0_B_2
  rw [View.read_writes_eq_canon _ _ _ (cover0_B_2 c i arg2 harg2 arg3 harg3 arg4 harg4 arg5 harg5 hc0 hc1 x0 x1 xs0)]
  unfold kernelRun0_B
  dsimp only
  sl_unfold_words
  rw [View.canon_unit_zero hz2]
  simp only [View.readAt_eq_ld, harg3.read_unread, harg5.read_unread, View.ld_unit_zero (S := S1024x2048) hz2,
    View.ld_unit_zero (S := S1x2048x512) hz3]

end Body

theorem pay1_apply (x : Vec Ideal S1024x2048 .f32) (j : S1024x2048.Idx) : k0_pay1 x j = x j := by
  pointwise [k0_pay1]

theorem pay2_apply (x : Vec Ideal S1024x2048 .bf16) (w : Vec Ideal S1x2048x512 .f32) (r : Fin 1024) (j : Fin 512) :
    k0_pay2 x w (ix2 r j) = ∑ d : Fin 2048, x (ix2 r d) * w (ix3 0 d j) := by
  pointwise [k0_pay2]

/-! ## The arrays the call reads, and its blocks -/

variable (m : (ℓ : Loc nD τ sig) → Buf (Elt Ideal) ℓ) (c : Dev nD)

/-- The memory rows. -/
def A (m : (ℓ : Loc nD τ sig) → Buf (Elt Ideal) ℓ) (c : Dev nD) : FVec Ideal S4x256x2048 .f32 := m ((c : Thread nD τ).loc main_arg0)
/-- The weight. -/
def W (m : (ℓ : Loc nD τ sig) → Buf (Elt Ideal) ℓ) (c : Dev nD) : FVec Ideal S1x2048x2048 .f32 := m ((c : Thread nD τ).loc main_arg1)

theorem V_x : V m c main_v0 = shapeCast S1024x2048 (A m c) shapeCasts_S4x256x2048_S1024x2048 := by
  unfold V A; after_results <;> rfl
theorem V_w : V m c main_arg1 = W m c := by
  unfold V W; after_results <;> rfl

/-- Which block of each array every grid point reads. -/
theorem idx_in : ∀ t : Fin cfg0.N,
    (win0_0.index t (0 : Fin 2) = 0 ∧ win0_0.index t (1 : Fin 2) = 0)
    ∧ (win0_1.index t (0 : Fin 3) = 0 ∧ win0_1.index t (1 : Fin 3) = 0 ∧ win0_1.index t (2 : Fin 3) = t.val) :=
  (by decide +kernel : ∀ t : Fin grid0.N, _)

theorem t_lt (t : Fin cfg0.N) : t.val < 4 := lt_of_lt_of_eq t.isLt N_0

theorem iblk_x (t : Fin cfg0.N) (r : Fin 1024) (d : Fin 2048) :
    (iblk m c 0 t : Vec Ideal S1024x2048 .f32) (ix2 r d) = A m c (ix3 ⟨r.val / 256, by omega⟩ ⟨r.val % 256, by omega⟩ d) := by
  obtain ⟨⟨e0, e1⟩, -⟩ := idx_in t
  have h : (iblk m c 0 t : Vec Ideal S1024x2048 .f32) (ix2 r d) = V m c main_v0 (ix2 r d) := by
    unfold iblk
    rw [View.read_apply]
    show V m c main_v0 _ = V m c main_v0 _
    congr 1
    funext a
    apply Fin.ext
    match a with
    | ⟨0, _⟩ => show win0_0.index t (0 : Fin 2) * 1024 + 1 * r.val = r.val; omega
    | ⟨1, _⟩ => show win0_0.index t (1 : Fin 2) * 2048 + 1 * d.val = d.val; omega
  rw [h, V_x]
  pointwise

theorem iblk_w (t : Fin cfg0.N) (d : Fin 2048) (j : Fin 512) :
    (iblk m c 1 t : Vec Ideal S1x2048x512 .f32) (ix3 0 d j) = W m c (ix3 0 d ⟨512 * t.val + j.val, by have := t_lt t; omega⟩) := by
  rw [← V_w]
  obtain ⟨-, e0, e1, e2⟩ := idx_in t
  unfold iblk
  rw [View.read_apply]
  show V m c main_arg1 _ = V m c main_arg1 _
  congr 1
  funext a
  apply Fin.ext
  match a with
  | ⟨0, _⟩ => show win0_1.index t (0 : Fin 3) * 1 + 1 * 0 = 0; omega
  | ⟨1, _⟩ => show win0_1.index t (1 : Fin 3) * 2048 + 1 * d.val = d.val; omega
  | ⟨2, _⟩ => show win0_1.index t (2 : Fin 3) * 512 + 1 * j.val = 512 * t.val + j.val; omega

/-! ## The result -/

/-- The projection at row `r`, column `j`. -/
def spec (A : FVec Ideal S4x256x2048 .f32) (W : FVec Ideal S1x2048x2048 .f32) (r : Fin 1024) (j : Fin 2048) : EReal :=
  ∑ d : Fin 2048, A (ix3 ⟨r.val / 256, by omega⟩ ⟨r.val % 256, by omega⟩ d) * W (ix3 0 d j)

/-- After every point the scratch holds the memory rows. -/
theorem carried : ∀ (n : ℕ) (hn : n < cfg0.N) (r : Fin 1024) (d : Fin 2048),
    (outsAt0 m c n hn).2 (ix2 r d) = A m c (ix3 ⟨r.val / 256, by omega⟩ ⟨r.val % 256, by omega⟩ d) := by
  intro n
  induction n with
  | zero =>
    intro hn r d
    rw [congrArg (fun p => p.2) (outsAt0_A m c ⟨0, hn⟩ rfl)]
    dsimp only
    rw [copy_A, pay1_apply]
    exact iblk_x m c ⟨0, hn⟩ r d
  | succ n ih =>
    intro hn r d
    have h4 : n + 1 < 4 := lt_of_lt_of_eq hn N_0
    rw [congrArg (fun p => p.2) (outsAt0_B m c ⟨n + 1, hn⟩ (by show ¬(n + 1) % 4 = 0; omega))]
    exact ih (Nat.lt_of_succ_lt hn) r d

/-- The product of the rows and a column block, at an index. -/
theorem prod_apply (t : Fin cfg0.N) (x : Vec Ideal S1024x2048 .bf16) (r : Fin 1024) (j : Fin 512)
    (hx : ∀ d, x (ix2 r d) = A m c (ix3 ⟨r.val / 256, by omega⟩ ⟨r.val % 256, by omega⟩ d)) :
    k0_pay2 x (iblk m c 1 t) (ix2 r j) = spec (A m c) (W m c) r ⟨512 * t.val + j.val, by have := t_lt t; omega⟩ := by
  rw [pay2_apply]
  unfold spec
  exact Finset.sum_congr rfl fun d _ => by rw [hx, iblk_w]

/-- What the output block holds after point `t`. -/
theorem out_apply (t : Fin cfg0.N) (r : Fin 1024) (j : Fin 512) :
    (outsAt0 m c t.val t.isLt).1 (ix2 r j) = spec (A m c) (W m c) r ⟨512 * t.val + j.val, by have := t_lt t; omega⟩ := by
  have h4 := t_lt t
  by_cases h0 : t.val % 4 = 0
  · rw [congrArg (fun p => p.1) (outsAt0_A m c t h0)]
    dsimp only
    rw [out_A]
    exact prod_apply m c t _ r j fun d => by rw [pay1_apply]; exact iblk_x m c t r d
  · rw [congrArg (fun p => p.1) (outsAt0_B m c t h0)]
    dsimp only
    rw [out_B]
    exact prod_apply m c t _ r j fun d => carried m c (t.val - 1) _ r d

/-- The call's result array at row `r`, column `j`. -/
theorem G2_apply (r : Fin 1024) (j : Fin 2048) : G2 m c (ix2 r j) = spec (A m c) (W m c) r j := by
  have hp : pt2Of (ix2 r j) = j.val / 512 := by
    show 4 * (r.val / 1024 - 0) + 1 * (j.val / 512 - 0) = _
    omega
  have hlt : pt2Of (ix2 r j) < cfg0.N := by rw [hp]; show _ < grid0.N; rw [N_0]; omega
  unfold G2
  rw [dif_pos hlt, ← outsAt0_sweep m c _ hlt]
  have hl : loc2Of (ix2 r j) = ix2 r ⟨j.val % 512, Nat.mod_lt _ (by decide)⟩ := by
    funext a; apply Fin.ext
    match a with
    | ⟨0, _⟩ => show r.val % 1024 = r.val; omega
    | ⟨1, _⟩ => rfl
  rw [hl]
  refine (out_apply m c ⟨pt2Of (ix2 r j), hlt⟩ r _).trans ?_
  congr 1
  apply Fin.ext
  show 512 * pt2Of (ix2 r j) + j.val % 512 = j.val
  rw [hp]; omega

/-- The reference's result at row `r`, column `j`. -/
theorem res_apply (A : FVec Ideal S4x256x2048 .f32) (W : FVec Ideal S1x2048x2048 .f32) (r : Fin 1024) (j : Fin 2048) :
    shapeCast Cert.Reference3Ideal.S1024x2048 (Host.dotGeneral Cert.Reference3Ideal.dot_S4x256x2048_S2048x2048_S4x256x2048_2_0_01_1_n_n none A
      (shapeCast _ W Cert.Reference3Ideal.Gen.shapeCasts_S1x2048x2048_S2048x2048)) Cert.Reference3Ideal.Gen.shapeCasts_S4x256x2048_S1024x2048 (ix2 r j)
      = spec A W r j := by
  pointwise [spec]

/-- The call's array is the reference's. -/
theorem value : G2 m c = shapeCast Cert.Reference3Ideal.S1024x2048 (Host.dotGeneral Cert.Reference3Ideal.dot_S4x256x2048_S2048x2048_S4x256x2048_2_0_01_1_n_n none (A m c)
      (shapeCast _ (W m c) Cert.Reference3Ideal.Gen.shapeCasts_S1x2048x2048_S2048x2048)) Cert.Reference3Ideal.Gen.shapeCasts_S4x256x2048_S1024x2048 := by
  refine funext fun (i : S1024x2048.Idx) => ?_
  rw [eq_ix2 i]
  exact (G2_apply m c _ _).trans (res_apply _ _ _ _).symm

end Cert.Layer.MemKV

end
-- ==== Proof.ProjWalk.lean ====
/-
  The input projection over row blocks of 1024 and eleven column blocks of 512: the weight's columns past the last one read
  zero, and the rows copied at a row block's first column block stay until its last.
-/
module

public import proofs.«01_k».proof.Proof.Sums

@[expose] public section

noncomputable section

namespace Cert.Layer.ProjWalk

/-- Column `j` of the weight at row `d`, zero past the last column. -/
def wcol (w : Fin 2048 → Fin 5408 → EReal) (d : Fin 2048) (j : ℕ) : EReal := if h : j < 5408 then w d ⟨j, h⟩ else 0

/-- The projection of one row to column `j`. -/
def proj (x : Fin 2048 → EReal) (w : Fin 2048 → Fin 5408 → EReal) (j : ℕ) : EReal := ∑ d : Fin 2048, x d * wcol w d j

/-- Rows copied at every eleventh step, kept at the others, are the step's rows. -/
theorem walk {N : ℕ} (X : ℕ → Fin 2048 → EReal) (cp : ∀ n, n < N → Fin 1024 → Fin 2048 → EReal)
    (hcp : ∀ n hn, n % 11 = 0 → ∀ r d, cp n hn r d = X (1024 * (n / 11) + r.val) d)
    (hkeep : ∀ n (hn : n + 1 < N), ¬(n + 1) % 11 = 0 → cp (n + 1) hn = cp n (Nat.lt_of_succ_lt hn)) :
    ∀ n hn r d, cp n hn r d = X (1024 * (n / 11) + r.val) d := by
  intro n
  induction n with
  | zero => exact fun hn => hcp 0 hn rfl
  | succ n ih =>
    intro hn r d
    by_cases h0 : (n + 1) % 11 = 0
    · exact hcp _ hn h0 r d
    · rw [hkeep n hn h0, ih (Nat.lt_of_succ_lt hn) r d, show (n + 1) / 11 = n / 11 by omega]

end Cert.Layer.ProjWalk

end
-- ==== Proof.InProj.lean ====
/-
  The mixers' input projection of the prompt batch, and the row its last position leaves for the next step's token shift: the
  call multiplies the 8192 rows by the weight's columns in eleven blocks, and the host takes every member's last position.
-/
module

public import proofs.«01_k».proof.Proof.ProjWalk
public import proofs.«01_k».proof.Proof.Gen.Kernel4Ideal.Frame
public import proofs.«01_k».proof.Proof.Gen.Reference4Ideal.Run
public import Idealize.ShloMosaic.Lib.KernelVsHost
public import Idealize.ShloMosaic.Lib.Pipeline.ValueKit
public import Idealize.ShloMosaic.Lib.Pipeline.ReadBack

@[expose] public section

noncomputable section

namespace Cert.Layer.InProj

open Cert.Kernel4Ideal Cert.Kernel4Ideal.Gen Idealize.ShloMosaic Idealize.ShloMosaic.TcCoe Idealize.SL.Sem
open Cert.Layer.ProjWalk

variable (m : (ℓ : Loc nD τ sig) → Buf (Elt Ideal) ℓ) (c : Dev nD)

/-- Row `r` of the batch, its member and its position read off one number (zero past the last row). -/
def xrow (x : FVec Ideal S4x2048x2048 .f32) (r : ℕ) (d : Fin 2048) : EReal :=
  if h : r < 8192 then x (ix3 ⟨r / 2048, by omega⟩ ⟨r % 2048, by omega⟩ d) else 0

/-- The rows of the batch. -/
def X : FVec Ideal S4x2048x2048 .f32 := m ((c : Thread nD τ).loc main_arg0)
/-- The weight. -/
def W0 : FVec Ideal S1x2048x5408 .f32 := m ((c : Thread nD τ).loc main_arg1)
/-- Its entry at row `d`, column `j`. -/
def W (d : Fin 2048) (j : Fin 5408) : EReal := W0 m c (ix3 0 d j)

theorem V_x : V m c main_v0 = shapeCast S8192x2048 (X m c) shapeCasts_S4x2048x2048_S8192x2048 := by
  unfold V V0 X hostOps0 hostOps0_1 hostOps0_2
  simp only [List.flatten_cons, List.flatten_nil, List.append_nil, List.cons_append, List.nil_append]
  after_results <;> rfl

theorem V_w : V m c main_v1 = transpose S1x5408x2048 [0, 2, 1] (W0 m c)
    transposes_S1x2048x5408_S1x5408x2048_0_2_1 := by
  unfold V V0 W0 hostOps0 hostOps0_1 hostOps0_2
  simp only [List.flatten_cons, List.flatten_nil, List.append_nil, List.cons_append, List.nil_append]
  after_results <;> rfl

theorem V_tail : V m c main_v6 = truncf .bf16 (pad S512x2048 ![0, 0] ![224, 0] ![0, 0]
      (shapeCast S288x2048 (extractStridedSlice S1x288x2048 ![0, 5120, 0]
        (transpose S1x5408x2048 [0, 2, 1] (W0 m c)
          transposes_S1x2048x5408_S1x5408x2048_0_2_1) slices_S1x5408x2048_S1x288x2048_0_5120_0)
        shapeCasts_S1x288x2048_S288x2048) (sitofp .f32 (constantI S_ 32 0#32)) pads_S288x2048_S512x2048_02240_000 h_S_) bitsLt_bf16_f32 := by
  unfold V V0 W0 hostOps0 hostOps0_1 hostOps0_2
  simp only [List.flatten_cons, List.flatten_nil, List.append_nil, List.cons_append, List.nil_append]
  after_results <;> rfl

/-- The weight's left-over columns, padded with zeros to a whole block and transposed, at an index. -/
theorem tail_apply (w : FVec Ideal S1x2048x5408 .f32) (j : Fin 512) (d : Fin 2048) :
    (truncf .bf16 (pad S512x2048 ![0, 0] ![224, 0] ![0, 0]
      (shapeCast S288x2048 (extractStridedSlice S1x288x2048 ![0, 5120, 0]
        (transpose S1x5408x2048 [0, 2, 1] w transposes_S1x2048x5408_S1x5408x2048_0_2_1) slices_S1x5408x2048_S1x288x2048_0_5120_0)
        shapeCasts_S1x288x2048_S288x2048) (sitofp .f32 (constantI S_ 32 0#32)) pads_S288x2048_S512x2048_02240_000 h_S_) bitsLt_bf16_f32
      : FVec Ideal S512x2048 .bf16) (ix2 j d) = wcol (fun d j => w (ix3 0 d j)) d (5120 + j.val) := by
  unfold wcol
  by_cases h : j.val < 288
  · rw [dif_pos (by omega)]
    refine (pad_apply_of_inside ![0, 0] ![224, 0] ![0, 0] _ _ pads_S288x2048_S512x2048_02240_000 h_S_ (ix2 j d) (ix2 (⟨j.val, h⟩ : Fin 288) d) fun a => ?_).trans ?_
    · match a with
      | ⟨0, _⟩ => show j.val = 0 + j.val * (0 + 1); omega
      | ⟨1, _⟩ => show d.val = 0 + d.val * (0 + 1); omega
    · pointwise
  · rw [dif_neg (by omega)]
    refine (pad_apply_of_not_inside (s := S288x2048) ![0, 0] ![224, 0] ![0, 0] _ _ pads_S288x2048_S512x2048_02240_000 h_S_ (ix2 j d) (0 : Fin 2) ?_).trans sitofp_zero
    intro ⟨_, _, h3⟩
    have h4 : (j.val - 0) / (0 + 1) < 288 := h3
    simp at h4
    exact h h4

/-- Which block of each array every grid point reads. -/
theorem idx : ∀ t : Fin cfg0.N, win0_0.index t = ![t.val / 11, 0] ∧ win0_1.index t = ![0, min (t.val % 11) 9, 0]
    ∧ win0_2.index t = ![0, 0] ∧ win0_3.index t = ![t.val / 11, t.val % 11] :=
  (by decide +kernel : ∀ t : Fin grid0.N, _)

theorem t_lt (t : Fin cfg0.N) : t.val < 88 := lt_of_lt_of_eq t.isLt N_0

theorem iblk_x (t : Fin cfg0.N) (r : Fin 1024) (d : Fin 2048) :
    (iblk m c 0 t : Vec Ideal S1024x2048 .f32) (ix2 r d) = xrow (X m c) (1024 * (t.val / 11) + r.val) d := by
  have ht := t_lt t
  have h : (iblk m c 0 t : Vec Ideal S1024x2048 .f32) (ix2 r d) = V m c main_v0 (ix2 ⟨1024 * (t.val / 11) + r.val, by omega⟩ d) := by
    blk_ext [iblk, idx t]
  rw [h, V_x, xrow, dif_pos (by omega)]
  pointwise [X]

theorem X0_w (t : Fin cfg0.N) (ht : t.val % 11 ≤ 9) (j : Fin 512) (d : Fin 2048) :
    (X0_1 m c t : Vec Ideal S1x512x2048 .f32) (ix3 0 j d) = wcol (W m c) d (512 * (t.val % 11) + j.val) := by
  have h : (X0_1 m c t : Vec Ideal S1x512x2048 .f32) (ix3 0 j d)
      = V m c main_v1 (ix3 0 ⟨512 * (t.val % 11) + j.val, by omega⟩ d) := by
    unfold X0_1 Pipeline.Window.fill
    rw [dif_pos (moved0_1 t (ix3 0 j d))]
    blk_ext [iblk, idx t]
  rw [h, V_w, wcol, dif_pos (by omega)]
  pointwise [W]

theorem iblk_tail (t : Fin cfg0.N) (j : Fin 512) (d : Fin 2048) :
    (iblk m c 2 t : Vec Ideal S512x2048 .bf16) (ix2 j d) = wcol (W m c) d (5120 + j.val) := by
  have h : (iblk m c 2 t : Vec Ideal S512x2048 .bf16) (ix2 j d) = V m c main_v6 (ix2 j d) := by
    blk_ext [iblk, idx t]
  rw [h, V_tail]
  exact tail_apply _ j d

theorem pay2_apply (x : Vec Ideal S1024x2048 .bf16) (w : Vec Ideal S1x512x2048 .f32) (r : Fin 1024) (j : Fin 512) :
    k0_pay2 x w (ix2 r j) = ∑ d : Fin 2048, x (ix2 r d) * w (ix3 0 j d) := by
  pointwise [k0_pay2]

theorem pay3_apply (x : Vec Ideal S1024x2048 .bf16) (w : Vec Ideal S512x2048 .bf16) (r : Fin 1024) (j : Fin 512) :
    k0_pay3 x w (ix2 r j) = ∑ d : Fin 2048, x (ix2 r d) * w (ix2 j d) := by
  pointwise [k0_pay3]

/-- After every point the copy holds the point's rows. -/
theorem carried : ∀ n hn r d, (outsAt0 m c n hn).2 (ix2 r d) = xrow (X m c) (1024 * (n / 11) + r.val) d :=
  walk (N := cfg0.N) (xrow (X m c)) (fun n hn r d => (outsAt0 m c n hn).2 (ix2 r d))
    (fun n hn h0 r d => by
      have e : (outsAt0 m c n hn).2 = k0_pay1 (iblk m c 0 ⟨n, hn⟩) :=
        (congrArg (fun p => p.2) (outsAt0_A m c ⟨n, hn⟩ h0 (by show n % 11 ≤ 9; omega) (by show ¬n % 11 = 10; omega))).trans (by frame_out)
      refine (congrFun e _).trans (Eq.trans ?_ (iblk_x m c ⟨n, hn⟩ r d))
      pointwise [k0_pay1])
    (fun n hn h0 => by
      have e : (outsAt0 m c (n + 1) hn).2 = (outsAt0 m c n (Nat.lt_of_succ_lt hn)).2 := by
        by_cases h2 : (n + 1) % 11 = 10
        · exact congrArg (fun p => p.2) (outsAt0_C m c ⟨n + 1, hn⟩ h0 (by show ¬(n + 1) % 11 ≤ 9; omega) h2)
        · exact congrArg (fun p => p.2) (outsAt0_B m c ⟨n + 1, hn⟩ h0 (by show (n + 1) % 11 ≤ 9; omega) h2)
      rw [e])

/-- At a row block's point but its last the output block is the product of the rows with a block of the weight's columns. -/
theorem prod_apply (t : Fin cfg0.N) (ht : t.val % 11 ≤ 9) (x : Vec Ideal S1024x2048 .bf16) (r : Fin 1024) (j : Fin 512)
    (hx : ∀ d, x (ix2 r d) = xrow (X m c) (1024 * (t.val / 11) + r.val) d) :
    k0_pay2 x (X0_1 m c t) (ix2 r j) = proj (xrow (X m c) (1024 * (t.val / 11) + r.val)) (W m c) (512 * (t.val % 11) + j.val) := by
  rw [pay2_apply]
  unfold proj
  exact Finset.sum_congr rfl fun d _ => by rw [hx, X0_w m c t ht]

/-- What the output block holds after point `t`. -/
theorem out_apply (t : Fin cfg0.N) (r : Fin 1024) (j : Fin 512) :
    (outsAt0 m c t.val t.isLt).1 (ix2 r j)
      = proj (xrow (X m c) (1024 * (t.val / 11) + r.val)) (W m c) (512 * (t.val % 11) + j.val) := by
  by_cases h0 : t.val % 11 = 0
  · have e : (outsAt0 m c t.val t.isLt).1 = k0_pay2 (k0_pay1 (iblk m c 0 t)) (X0_1 m c t) :=
      (congrArg (fun p => p.1) (outsAt0_A m c t h0 (by omega) (by omega))).trans (by frame_out)
    refine (congrFun e _).trans (prod_apply m c t (by omega) _ r j fun d => Eq.trans ?_ (iblk_x m c t r d))
    pointwise [k0_pay1]
  · obtain ⟨n, hn⟩ := t
    match n, hn, h0 with
    | n + 1, hn, h0 =>
      have h0' : ¬(n + 1) % 11 = 0 := h0
      have hc : ∀ d, (outsAt0 m c n (Nat.lt_of_succ_lt hn)).2 (ix2 r d) = xrow (X m c) (1024 * ((n + 1) / 11) + r.val) d := fun d => by
        rw [carried, show (n + 1) / 11 = n / 11 by omega]
      by_cases h2 : (n + 1) % 11 = 10
      · have e : (outsAt0 m c (n + 1) hn).1 = k0_pay3 (outsAt0 m c n (Nat.lt_of_succ_lt hn)).2 (iblk m c 2 ⟨n + 1, hn⟩) :=
          (congrArg (fun p => p.1) (outsAt0_C m c ⟨n + 1, hn⟩ h0 (by show ¬(n + 1) % 11 ≤ 9; omega) h2)).trans
            (by frame_out; simp only [read_unread_whole]; rfl)
        refine (congrFun e _).trans ((pay3_apply _ _ r j).trans ?_)
        unfold proj
        dsimp only
        rw [h2]
        exact Finset.sum_congr rfl fun d _ => by rw [hc, iblk_tail]
      · have e : (outsAt0 m c (n + 1) hn).1 = k0_pay2 (outsAt0 m c n (Nat.lt_of_succ_lt hn)).2 (X0_1 m c ⟨n + 1, hn⟩) :=
          (congrArg (fun p => p.1) (outsAt0_B m c ⟨n + 1, hn⟩ h0 (by show (n + 1) % 11 ≤ 9; omega) h2)).trans
            (by frame_out; simp only [read_unread_whole]; rfl)
        exact (congrFun e _).trans (prod_apply m c ⟨n + 1, hn⟩ (by show (n + 1) % 11 ≤ 9; omega) _ r j hc)

/-- The call's array. -/
theorem array : (dats m 0 c).arrAt 3 cfg0.N
    = (fun i => proj (xrow (X m c) (i 0).val) (W m c) (i 1).val : FVec Ideal S8192x5632 .f32) := by
  refine (dats m 0 c).arrAt_eq_of_covers 3 _ (by decide +kernel) fun t hf y => ?_
  blk_simp
  rw [after0_3]
  obtain ⟨r, j, rfl⟩ : ∃ r j, y = ix2 r j := ⟨y 0, y 1, eq_ix2 y⟩
  refine (out_apply m c t r j).trans ?_
  have ht := t_lt t
  have e0 : win0_3.index t 0 * 1024 + r.val = 1024 * (t.val / 11) + r.val := by
    rw [(idx t).2.2.2]; show t.val / 11 * 1024 + r.val = 1024 * (t.val / 11) + r.val; omega
  have e1 : win0_3.index t 1 * 512 + j.val = 512 * (t.val % 11) + j.val := by
    rw [(idx t).2.2.2]; show t.val % 11 * 512 + j.val = 512 * (t.val % 11) + j.val; omega
  show _ = proj (xrow (X m c) (win0_3.index t 0 * 1024 + r.val)) (W m c) (win0_3.index t 1 * 512 + j.val)
  rw [e0, e1]

/-- What the host lines after the call leave in the result. -/
theorem tail : Pipeline.afterTail₀ cfgs (dats m) 0 (V0 m) [hostOps1] c main_v10
    = shapeCast S4x3360 (extractStridedSlice S4x1x3360 ![0, 2047, 2048]
        (shapeCast S4x2048x5632 ((dats m 0 c).arrAt 3 cfg0.N : FVec Ideal S8192x5632 .f32) shapeCasts_S8192x5632_S4x2048x5632)
        slices_S4x2048x5632_S4x1x3360_0_2047_2048) shapeCasts_S4x1x3360_S4x3360 := by
  unfold Pipeline.afterTail₀
  simp only [hostOps1, List.flatten_cons, List.flatten_nil, List.append_nil]
  after_results
  have e : Pipeline.withArrays spec0 c (V0 m c) (fun w => (dats m 0 c).arrAt w cfg0.N) (Proc.devRef .tc main_v7)
      = (dats m 0 c).arrAt 3 cfg0.N := Pipeline.withArrays_arr spec0 (by decide) c (V0 m c) (fun w => (dats m 0 c).arrAt w cfg0.N) 3
  generalize (dats m 0 c).arrAt 3 cfg0.N = A at e ⊢
  rw [← e]
  rfl

/-- The result is the last position's row of every member, of the columns past the RG-LRU's. -/
theorem shift_apply (b : Fin 4) (k : Fin 3360) :
    (Pipeline.afterTail₀ cfgs (dats m) 0 (V0 m) [hostOps1] c main_v10 : FVec Ideal S4x3360 .f32) (ix2 b k)
      = ∑ d : Fin 2048, X m c (ix3 b 2047 d) * W0 m c (ix3 0 d ⟨2048 + k.val, by omega⟩) := by
  have e : ∀ A : FVec Ideal S8192x5632 .f32, shapeCast S4x3360 (extractStridedSlice S4x1x3360 ![0, 2047, 2048]
        (shapeCast S4x2048x5632 A shapeCasts_S8192x5632_S4x2048x5632) slices_S4x2048x5632_S4x1x3360_0_2047_2048)
        shapeCasts_S4x1x3360_S4x3360 (ix2 b k) = A (ix2 ⟨b.val * 2048 + 2047, by omega⟩ ⟨2048 + k.val, by omega⟩) := fun A => by
    pointwise
  rw [tail, e, array]
  show proj (xrow _ (b.val * 2048 + 2047)) _ (2048 + k.val) = _
  unfold proj
  refine Finset.sum_congr rfl fun d _ => ?_
  rw [xrow, dif_pos (by omega), wcol, dif_pos (by omega)]
  have h1 : (b.val * 2048 + 2047) / 2048 = b.val := by omega
  have h2 : (b.val * 2048 + 2047) % 2048 = 2047 := by omega
  congr 1
  congr 1
  funext a; apply Fin.ext
  match a with
  | ⟨0, _⟩ => exact h1
  | ⟨1, _⟩ => exact h2
  | ⟨2, _⟩ => rfl

end Cert.Layer.InProj

namespace Cert.Layer.InProj

open Cert.Reference4Ideal Cert.Reference4Ideal.Gen Idealize.ShloMosaic Idealize.ShloMosaic.TcCoe Cert.Layer.ProjWalk

/-- The reference's result at member `b`, column `k`. -/
theorem res_apply (x : FVec Ideal S4x2048x2048 .f32) (w : FVec Ideal S1x2048x5408 .f32) (b : Fin 4) (k : Fin 3360) :
    (shapeCast S4x3360 (extractStridedSlice S4x1x3360 ![0, 2047, 0] (extractStridedSlice S4x2048x3360 ![0, 0, 2048]
        (Host.dotGeneral dot_S4x2048x2048_S2048x5408_S4x2048x5408_2_0_01_1_n_n none x (shapeCast S2048x5408 w shapeCasts_S1x2048x5408_S2048x5408))
        slices_S4x2048x5408_S4x2048x3360_0_0_2048) slices_S4x2048x3360_S4x1x3360_0_2047_0) shapeCasts_S4x1x3360_S4x3360 : FVec Ideal S4x3360 .f32)
      (ix2 b k) = ∑ d : Fin 2048, x (ix3 b 2047 d) * w (ix3 0 d ⟨2048 + k.val, by omega⟩) := by
  pointwise

/-- The reference's padded projection at row `r`, column `j`. -/
theorem padded_apply (x : FVec Ideal S4x2048x2048 .f32) (w : FVec Ideal S1x2048x5408 .f32) (r : Fin 8192) (j : Fin 5632) :
    (pad S8192x5632 ![0, 0] ![0, 224] ![0, 0]
      (shapeCast S8192x5408 (Host.dotGeneral dot_S4x2048x2048_S2048x5408_S4x2048x5408_2_0_01_1_n_n none x
        (shapeCast S2048x5408 w shapeCasts_S1x2048x5408_S2048x5408)) shapeCasts_S4x2048x5408_S8192x5408)
      (sitofp .f32 (constantI S_ 32 0#32)) pads_S8192x5408_S8192x5632_000_02240 h_S_ : FVec Ideal S8192x5632 .f32) (ix2 r j)
      = proj (xrow x r.val) (fun d j => w (ix3 0 d j)) j.val := by
  unfold proj wcol
  by_cases h : j.val < 5408
  · simp only [dif_pos h]
    refine (pad_apply_of_inside ![0, 0] ![0, 224] ![0, 0] _ _ pads_S8192x5408_S8192x5632_000_02240 h_S_ (ix2 r j) (ix2 r (⟨j.val, h⟩ : Fin 5408)) fun a => ?_).trans ?_
    · match a with
      | ⟨0, _⟩ => show r.val = 0 + r.val * (0 + 1); omega
      | ⟨1, _⟩ => show j.val = 0 + j.val * (0 + 1); omega
    · simp only [xrow, dif_pos r.isLt]
      pointwise
  · simp only [dif_neg h, mul_zero, Finset.sum_const_zero]
    refine (pad_apply_of_not_inside (s := S8192x5408) ![0, 0] ![0, 224] ![0, 0] _ _ pads_S8192x5408_S8192x5632_000_02240 h_S_ (ix2 r j) (1 : Fin 2) ?_).trans sitofp_zero
    intro ⟨_, _, h3⟩
    have h4 : (j.val - 0) / (0 + 1) < 5408 := h3
    simp at h4
    exact h h4

/-- The call's shift row is the reference's. -/
theorem shift_eq (m : (ℓ : Loc Cert.Kernel4Ideal.nD Cert.Kernel4Ideal.τ Cert.Kernel4Ideal.sig) → Buf (Elt Ideal) ℓ) (c : Dev Cert.Kernel4Ideal.nD) :
    Pipeline.afterTail₀ Cert.Kernel4Ideal.cfgs (Cert.Kernel4Ideal.Gen.dats m) 0 (Cert.Kernel4Ideal.Gen.V0 m)
        [Cert.Kernel4Ideal.Gen.hostOps1] c Cert.Kernel4Ideal.main_v10
      = (shapeCast S4x3360 (extractStridedSlice S4x1x3360 ![0, 2047, 0] (extractStridedSlice S4x2048x3360 ![0, 0, 2048]
        (Host.dotGeneral dot_S4x2048x2048_S2048x5408_S4x2048x5408_2_0_01_1_n_n none (X m c) (shapeCast S2048x5408 (W0 m c) shapeCasts_S1x2048x5408_S2048x5408))
        slices_S4x2048x5408_S4x2048x3360_0_0_2048) slices_S4x2048x3360_S4x1x3360_0_2047_0) shapeCasts_S4x1x3360_S4x3360 : FVec Ideal S4x3360 .f32) := by
  refine funext fun (i : S4x3360.Idx) => ?_
  rw [eq_ix2 i]
  exact (shift_apply m c _ _).trans (res_apply _ _ _ _).symm

/-- The call's array is the reference's padded projection. -/
theorem padded_eq (m : (ℓ : Loc Cert.Kernel4Ideal.nD Cert.Kernel4Ideal.τ Cert.Kernel4Ideal.sig) → Buf (Elt Ideal) ℓ) (c : Dev Cert.Kernel4Ideal.nD) :
    (Cert.Kernel4Ideal.Gen.dats m 0 c).arrAt 3 Cert.Kernel4Ideal.cfg0.N
      = (pad S8192x5632 ![0, 0] ![0, 224] ![0, 0]
      (shapeCast S8192x5408 (Host.dotGeneral dot_S4x2048x2048_S2048x5408_S4x2048x5408_2_0_01_1_n_n none (X m c)
        (shapeCast S2048x5408 (W0 m c) shapeCasts_S1x2048x5408_S2048x5408)) shapeCasts_S4x2048x5408_S8192x5408)
      (sitofp .f32 (constantI S_ 32 0#32)) pads_S8192x5408_S8192x5632_000_02240 h_S_ : FVec Ideal S8192x5632 .f32) := by
  rw [array]
  refine funext fun (i : S8192x5632.Idx) => ?_
  rw [eq_ix2 i]
  exact (padded_apply _ _ _ _).symm

end Cert.Layer.InProj

end
-- ==== Proof.InProjSample.lean ====
/-
  The mixers' input projection of the sample batch, and the row its last position leaves for the next step's token shift: the
  call multiplies the 1024 rows by the weight's columns in eleven blocks, and the host takes every member's last position.
-/
module

public import proofs.«01_k».proof.Proof.InProj
public import proofs.«01_k».proof.Proof.Gen.Kernel9Ideal.Frame
public import proofs.«01_k».proof.Proof.Gen.Reference9Ideal.Run
public import Idealize.ShloMosaic.Lib.KernelVsHost
public import Idealize.ShloMosaic.Lib.Pipeline.ValueKit
public import Idealize.ShloMosaic.Lib.Pipeline.ReadBack

@[expose] public section

noncomputable section

namespace Cert.Layer.InProjSample

open Cert.Kernel9Ideal Cert.Kernel9Ideal.Gen Idealize.ShloMosaic Idealize.ShloMosaic.TcCoe Idealize.SL.Sem
open Cert.Layer.ProjWalk

variable (m : (ℓ : Loc nD τ sig) → Buf (Elt Ideal) ℓ) (c : Dev nD)

/-- Row `r` of the batch, its member and its position read off one number (zero past the last row). -/
def xrow (x : FVec Ideal S128x8x2048 .f32) (r : ℕ) (d : Fin 2048) : EReal :=
  if h : r < 1024 then x (ix3 ⟨r / 8, by omega⟩ ⟨r % 8, by omega⟩ d) else 0

/-- The rows of the batch. -/
def X : FVec Ideal S128x8x2048 .f32 := m ((c : Thread nD τ).loc main_arg0)
/-- The weight. -/
def W0 : FVec Ideal S1x2048x5408 .f32 := m ((c : Thread nD τ).loc main_arg1)
/-- Its entry at row `d`, column `j`. -/
def W (d : Fin 2048) (j : Fin 5408) : EReal := W0 m c (ix3 0 d j)

theorem V_x : V m c main_v0 = shapeCast S1024x2048 (X m c) shapeCasts_S128x8x2048_S1024x2048 := by
  unfold V V0 X hostOps0 hostOps0_1 hostOps0_2
  simp only [List.flatten_cons, List.flatten_nil, List.append_nil, List.cons_append, List.nil_append]
  after_results <;> rfl

theorem V_w : V m c main_v1 = transpose S1x5408x2048 [0, 2, 1] (W0 m c)
    transposes_S1x2048x5408_S1x5408x2048_0_2_1 := by
  unfold V V0 W0 hostOps0 hostOps0_1 hostOps0_2
  simp only [List.flatten_cons, List.flatten_nil, List.append_nil, List.cons_append, List.nil_append]
  after_results <;> rfl

theorem V_tail : V m c main_v6 = truncf .bf16 (pad S512x2048 ![0, 0] ![224, 0] ![0, 0]
      (shapeCast S288x2048 (extractStridedSlice S1x288x2048 ![0, 5120, 0]
        (transpose S1x5408x2048 [0, 2, 1] (W0 m c)
          transposes_S1x2048x5408_S1x5408x2048_0_2_1) slices_S1x5408x2048_S1x288x2048_0_5120_0)
        shapeCasts_S1x288x2048_S288x2048) (sitofp .f32 (constantI S_ 32 0#32)) pads_S288x2048_S512x2048_02240_000 h_S_) bitsLt_bf16_f32 := by
  unfold V V0 W0 hostOps0 hostOps0_1 hostOps0_2
  simp only [List.flatten_cons, List.flatten_nil, List.append_nil, List.cons_append, List.nil_append]
  after_results <;> rfl

/-- Which block of each array every grid point reads. -/
theorem idx : ∀ t : Fin cfg0.N, win0_0.index t = ![t.val / 11, 0] ∧ win0_1.index t = ![0, min (t.val % 11) 9, 0]
    ∧ win0_2.index t = ![0, 0] ∧ win0_3.index t = ![t.val / 11, t.val % 11] :=
  (by decide +kernel : ∀ t : Fin grid0.N, _)

theorem t_lt (t : Fin cfg0.N) : t.val < 11 := lt_of_lt_of_eq t.isLt N_0

theorem iblk_x (t : Fin cfg0.N) (r : Fin 1024) (d : Fin 2048) :
    (iblk m c 0 t : Vec Ideal S1024x2048 .f32) (ix2 r d) = xrow (X m c) (1024 * (t.val / 11) + r.val) d := by
  have ht := t_lt t
  have h : (iblk m c 0 t : Vec Ideal S1024x2048 .f32) (ix2 r d) = V m c main_v0 (ix2 ⟨1024 * (t.val / 11) + r.val, by omega⟩ d) := by
    blk_ext [iblk, idx t]
  rw [h, V_x, xrow, dif_pos (by omega)]
  pointwise [X]

theorem X0_w (t : Fin cfg0.N) (ht : t.val % 11 ≤ 9) (j : Fin 512) (d : Fin 2048) :
    (X0_1 m c t : Vec Ideal S1x512x2048 .f32) (ix3 0 j d) = wcol (W m c) d (512 * (t.val % 11) + j.val) := by
  have h : (X0_1 m c t : Vec Ideal S1x512x2048 .f32) (ix3 0 j d)
      = V m c main_v1 (ix3 0 ⟨512 * (t.val % 11) + j.val, by omega⟩ d) := by
    unfold X0_1 Pipeline.Window.fill
    rw [dif_pos (moved0_1 t (ix3 0 j d))]
    blk_ext [iblk, idx t]
  rw [h, V_w, wcol, dif_pos (by omega)]
  pointwise [W]

theorem iblk_tail (t : Fin cfg0.N) (j : Fin 512) (d : Fin 2048) :
    (iblk m c 2 t : Vec Ideal S512x2048 .bf16) (ix2 j d) = wcol (W m c) d (5120 + j.val) := by
  have h : (iblk m c 2 t : Vec Ideal S512x2048 .bf16) (ix2 j d) = V m c main_v6 (ix2 j d) := by
    blk_ext [iblk, idx t]
  rw [h, V_tail]
  exact Cert.Layer.InProj.tail_apply _ j d

theorem pay2_apply (x : Vec Ideal S1024x2048 .bf16) (w : Vec Ideal S1x512x2048 .f32) (r : Fin 1024) (j : Fin 512) :
    k0_pay2 x w (ix2 r j) = ∑ d : Fin 2048, x (ix2 r d) * w (ix3 0 j d) := by
  pointwise [k0_pay2]

theorem pay3_apply (x : Vec Ideal S1024x2048 .bf16) (w : Vec Ideal S512x2048 .bf16) (r : Fin 1024) (j : Fin 512) :
    k0_pay3 x w (ix2 r j) = ∑ d : Fin 2048, x (ix2 r d) * w (ix2 j d) := by
  pointwise [k0_pay3]

/-- The first point copies the rows, no later point changes the copy. -/
theorem carried : ∀ n hn r d, (outsAt0 m c n hn).2 (ix2 r d) = xrow (X m c) r.val d := by
  intro n
  induction n with
  | zero =>
    intro hn r d
    have e : (outsAt0 m c 0 hn).2 = k0_pay1 (iblk m c 0 ⟨0, hn⟩) :=
      (congrArg (fun p => p.2) (outsAt0_A m c ⟨0, hn⟩ rfl (by show 0 < 10; omega) (by show ¬0 % 11 = 10; omega))).trans (by frame_out)
    rw [e]
    refine Eq.trans ?_ ((iblk_x m c ⟨0, hn⟩ r d).trans (by simp))
    pointwise [k0_pay1]
  | succ n ih =>
    intro hn r d
    refine Eq.trans (congrFun ?_ (ix2 r d)) (ih (Nat.lt_of_succ_lt hn) r d)
    have ht := t_lt ⟨n + 1, hn⟩
    have h0 : ¬(n + 1) % 11 = 0 := by dsimp only at ht; omega
    by_cases h2 : (n + 1) % 11 = 10
    · exact congrArg (fun p => p.2) (outsAt0_C m c ⟨n + 1, hn⟩ h0 (by dsimp only; omega) h2)
    · exact congrArg (fun p => p.2) (outsAt0_B m c ⟨n + 1, hn⟩ h0 (by dsimp only at ht ⊢; omega) h2)

/-- At a point but the last the output block is the product of the rows' copy with a block of the weight's columns. -/
theorem prod_apply (t : Fin cfg0.N) (ht : t.val < 10) (x : Vec Ideal S1024x2048 .bf16) (r : Fin 1024) (j : Fin 512)
    (hx : ∀ d, x (ix2 r d) = xrow (X m c) r.val d) :
    k0_pay2 x (X0_1 m c t) (ix2 r j) = proj (xrow (X m c) r.val) (W m c) (512 * t.val + j.val) := by
  rw [pay2_apply]
  unfold proj
  exact Finset.sum_congr rfl fun d _ => by rw [hx, X0_w m c t (by omega), Nat.mod_eq_of_lt (by omega : t.val < 11)]

/-- What the output block holds after point `t`. -/
theorem out_apply (t : Fin cfg0.N) (r : Fin 1024) (j : Fin 512) :
    (outsAt0 m c t.val t.isLt).1 (ix2 r j) = proj (xrow (X m c) r.val) (W m c) (512 * t.val + j.val) := by
  obtain ⟨n, hn⟩ := t
  have ht := t_lt ⟨n, hn⟩
  match n, hn, ht with
  | 0, hn, _ =>
    have e : (outsAt0 m c 0 hn).1 = k0_pay2 (k0_pay1 (iblk m c 0 ⟨0, hn⟩)) (X0_1 m c ⟨0, hn⟩) :=
      (congrArg (fun p => p.1) (outsAt0_A m c ⟨0, hn⟩ rfl (by show 0 < 10; omega) (by show ¬0 % 11 = 10; omega))).trans (by frame_out)
    refine (congrFun e _).trans (prod_apply m c ⟨0, hn⟩ (by show 0 < 10; omega) _ r j fun d => ?_)
    refine Eq.trans ?_ ((iblk_x m c ⟨0, hn⟩ r d).trans (by simp))
    pointwise [k0_pay1]
  | n + 1, hn, ht =>
    have h0 : ¬(n + 1) % 11 = 0 := by dsimp only at ht; omega
    have hc := fun d => carried m c n (Nat.lt_of_succ_lt hn) r d
    by_cases h2 : (n + 1) % 11 = 10
    · have e : (outsAt0 m c (n + 1) hn).1 = k0_pay3 (outsAt0 m c n (Nat.lt_of_succ_lt hn)).2 (iblk m c 2 ⟨n + 1, hn⟩) :=
        (congrArg (fun p => p.1) (outsAt0_C m c ⟨n + 1, hn⟩ h0 (by dsimp only; omega) h2)).trans
          (by frame_out; simp only [read_unread_whole]; rfl)
      refine (congrFun e _).trans ((pay3_apply _ _ r j).trans ?_)
      unfold proj
      exact Finset.sum_congr rfl fun d _ => by
        rw [hc, iblk_tail, show 512 * (n + 1) + j.val = 5120 + j.val by dsimp only at ht; omega]
    · have e : (outsAt0 m c (n + 1) hn).1 = k0_pay2 (outsAt0 m c n (Nat.lt_of_succ_lt hn)).2 (X0_1 m c ⟨n + 1, hn⟩) :=
        (congrArg (fun p => p.1) (outsAt0_B m c ⟨n + 1, hn⟩ h0 (by dsimp only at ht ⊢; omega) h2)).trans
          (by frame_out; simp only [read_unread_whole]; rfl)
      exact (congrFun e _).trans (prod_apply m c ⟨n + 1, hn⟩ (by dsimp only at ht ⊢; omega) _ r j hc)

/-- The call's array. -/
theorem array : (dats m 0 c).arrAt 3 cfg0.N
    = (fun i => proj (xrow (X m c) (i 0).val) (W m c) (i 1).val : FVec Ideal S1024x5632 .f32) := by
  refine (dats m 0 c).arrAt_eq_of_covers 3 _ (by decide +kernel) fun t hf y => ?_
  blk_simp
  rw [after0_3]
  obtain ⟨r, j, rfl⟩ : ∃ r j, y = ix2 r j := ⟨y 0, y 1, eq_ix2 y⟩
  refine (out_apply m c t r j).trans ?_
  have ht := t_lt t
  have e0 : win0_3.index t 0 * 1024 + r.val = r.val := by rw [(idx t).2.2.2]; show t.val / 11 * 1024 + r.val = r.val; omega
  have e1 : win0_3.index t 1 * 512 + j.val = 512 * t.val + j.val := by
    rw [(idx t).2.2.2]; show t.val % 11 * 512 + j.val = 512 * t.val + j.val; omega
  show _ = proj (xrow (X m c) (win0_3.index t 0 * 1024 + r.val)) (W m c) (win0_3.index t 1 * 512 + j.val)
  rw [e0, e1]

/-- What the host lines after the call leave in the result. -/
theorem tail : Pipeline.afterTail₀ cfgs (dats m) 0 (V0 m) [hostOps1] c main_v10
    = shapeCast S128x3360 (extractStridedSlice S128x1x3360 ![0, 7, 2048]
        (shapeCast S128x8x5632 ((dats m 0 c).arrAt 3 cfg0.N : FVec Ideal S1024x5632 .f32) shapeCasts_S1024x5632_S128x8x5632)
        slices_S128x8x5632_S128x1x3360_0_7_2048) shapeCasts_S128x1x3360_S128x3360 := by
  unfold Pipeline.afterTail₀
  simp only [hostOps1, List.flatten_cons, List.flatten_nil, List.append_nil]
  after_results
  have e : Pipeline.withArrays spec0 c (V0 m c) (fun w => (dats m 0 c).arrAt w cfg0.N) (Proc.devRef .tc main_v7)
      = (dats m 0 c).arrAt 3 cfg0.N := Pipeline.withArrays_arr spec0 (by decide) c (V0 m c) (fun w => (dats m 0 c).arrAt w cfg0.N) 3
  generalize (dats m 0 c).arrAt 3 cfg0.N = A at e ⊢
  rw [← e]
  rfl

/-- The result is the last position's row of every member, of the columns past the RG-LRU's. -/
theorem shift_apply (b : Fin 128) (k : Fin 3360) :
    (Pipeline.afterTail₀ cfgs (dats m) 0 (V0 m) [hostOps1] c main_v10 : FVec Ideal S128x3360 .f32) (ix2 b k)
      = ∑ d : Fin 2048, X m c (ix3 b 7 d) * W0 m c (ix3 0 d ⟨2048 + k.val, by omega⟩) := by
  have e : ∀ A : FVec Ideal S1024x5632 .f32, shapeCast S128x3360 (extractStridedSlice S128x1x3360 ![0, 7, 2048]
        (shapeCast S128x8x5632 A shapeCasts_S1024x5632_S128x8x5632) slices_S128x8x5632_S128x1x3360_0_7_2048)
        shapeCasts_S128x1x3360_S128x3360 (ix2 b k) = A (ix2 ⟨b.val * 8 + 7, by omega⟩ ⟨2048 + k.val, by omega⟩) := fun A => by
    pointwise
  rw [tail, e, array]
  show proj (xrow _ (b.val * 8 + 7)) _ (2048 + k.val) = _
  unfold proj
  refine Finset.sum_congr rfl fun d _ => ?_
  rw [xrow, dif_pos (by omega), wcol, dif_pos (by omega)]
  have h1 : (b.val * 8 + 7) / 8 = b.val := by omega
  have h2 : (b.val * 8 + 7) % 8 = 7 := by omega
  congr 1
  congr 1
  funext a; apply Fin.ext
  match a with
  | ⟨0, _⟩ => exact h1
  | ⟨1, _⟩ => exact h2
  | ⟨2, _⟩ => rfl

end Cert.Layer.InProjSample

namespace Cert.Layer.InProjSample

open Cert.Reference9Ideal Cert.Reference9Ideal.Gen Idealize.ShloMosaic Idealize.ShloMosaic.TcCoe

/-- The reference's result at member `b`, column `k`. -/
theorem res_apply (x : FVec Ideal S128x8x2048 .f32) (w : FVec Ideal S1x2048x5408 .f32) (b : Fin 128) (k : Fin 3360) :
    (shapeCast S128x3360 (extractStridedSlice S128x1x3360 ![0, 7, 0] (extractStridedSlice S128x8x3360 ![0, 0, 2048]
        (Host.dotGeneral dot_S128x8x2048_S2048x5408_S128x8x5408_2_0_01_1_n_n none x (shapeCast S2048x5408 w shapeCasts_S1x2048x5408_S2048x5408))
        slices_S128x8x5408_S128x8x3360_0_0_2048) slices_S128x8x3360_S128x1x3360_0_7_0) shapeCasts_S128x1x3360_S128x3360 : FVec Ideal S128x3360 .f32)
      (ix2 b k) = ∑ d : Fin 2048, x (ix3 b 7 d) * w (ix3 0 d ⟨2048 + k.val, by omega⟩) := by
  pointwise

/-- The call's shift row is the reference's. -/
theorem shift_eq (m : (ℓ : Loc Cert.Kernel9Ideal.nD Cert.Kernel9Ideal.τ Cert.Kernel9Ideal.sig) → Buf (Elt Ideal) ℓ) (c : Dev Cert.Kernel9Ideal.nD) :
    Pipeline.afterTail₀ Cert.Kernel9Ideal.cfgs (Cert.Kernel9Ideal.Gen.dats m) 0 (Cert.Kernel9Ideal.Gen.V0 m)
        [Cert.Kernel9Ideal.Gen.hostOps1] c Cert.Kernel9Ideal.main_v10
      = (shapeCast S128x3360 (extractStridedSlice S128x1x3360 ![0, 7, 0] (extractStridedSlice S128x8x3360 ![0, 0, 2048]
        (Host.dotGeneral dot_S128x8x2048_S2048x5408_S128x8x5408_2_0_01_1_n_n none (X m c) (shapeCast S2048x5408 (W0 m c) shapeCasts_S1x2048x5408_S2048x5408))
        slices_S128x8x5408_S128x8x3360_0_0_2048) slices_S128x8x3360_S128x1x3360_0_7_0) shapeCasts_S128x1x3360_S128x3360 : FVec Ideal S128x3360 .f32) := by
  refine funext fun (i : S128x3360.Idx) => ?_
  rw [eq_ix2 i]
  exact (shift_apply m c _ _).trans (res_apply _ _ _ _).symm

end Cert.Layer.InProjSample

end
-- ==== Proof.OutProj.lean ====
/-
  The mixers' output projection: the call multiplies the two mixers' rows by the upper and the lower half of the weight,
  adds the two products to the scaled residual and normalises the row. The reference lays the two mixers' rows side by
  side and multiplies once.
-/
module

public import proofs.«01_k».proof.Proof.Sums
public import proofs.«01_k».proof.Proof.Gen.Kernel5Ideal.Value
public import proofs.«01_k».proof.Proof.Gen.Reference5Ideal.Run

@[expose] public section

noncomputable section

namespace Cert.Layer.OutProj

open Cert.Kernel5Ideal Cert.Kernel5Ideal.Gen Cert.Kernel5Ideal.Value Idealize.ShloMosaic Idealize.ShloMosaic.TcCoe Idealize.SL.Sem
open Idealize.ShloMosaic.Pipeline (Dat)

/-! ## What the body leaves behind, read at an index -/

/-- The row the body normalises. -/
def pre (l k : Fin 1024 → EReal) (wl wk : Fin 1024 → Fin 2048 → EReal) (x : Fin 2048 → EReal) (j : Fin 2048) : EReal :=
  Ideal.ofBits .f32 0x3F9837F0#32 * x j + (∑ d : Fin 1024, l d * wl d j + ∑ d : Fin 1024, k d * wk d j)

theorem out_apply (x0 x1 : Vec Ideal S256x1024 .f32) (x2 x3 : Vec Ideal S1024x2048 .bf16) (x4 : Vec Ideal S256x2048 .f32)
    (x5 x6 : Vec Ideal S1x2048 .f32) (r : Fin 256) (j : Fin 2048) :
    out0_7 x0 x1 x2 x3 x4 x5 x6 (ix2 r j)
      = lnorm (Ideal.ofBits .f32 0x45000000#32) (Ideal.ofBits .f32 0x3727C5AC#32)
          (pre (fun d => x0 (ix2 r d)) (fun d => x1 (ix2 r d)) (fun d j => x2 (ix2 d j)) (fun d j => x3 (ix2 d j)) (fun d => x4 (ix2 r d)))
          (fun d => x5 (ix2 0 d)) (fun d => x6 (ix2 0 d)) j := by
  unfold out0_7
  rw [View.canon_unit_zero hz2]
  simp only [View.ld_unit_zero (S := S256x1024) hz2, View.ld_unit_zero (S := S1024x2048) hz2, View.ld_unit_zero (S := S256x2048) hz2,
    View.ld_unit_zero (S := S1x2048) hz2]
  pointwise [k0_pay1, k0_pay2, k0_pay3, k0_pay4, k0_pay5, lnorm, pre]

/-! ## The arrays the call reads, and its blocks -/

variable (m : (ℓ : Loc nD τ sig) → Buf (Elt Ideal) ℓ) (c : Dev nD)

/-- The first mixer's output. -/
def L (m : (ℓ : Loc nD τ sig) → Buf (Elt Ideal) ℓ) (c : Dev nD) : FVec Ideal S4x2048x1024 .f32 := m ((c : Thread nD τ).loc main_arg0)
/-- The second mixer's output. -/
def K (m : (ℓ : Loc nD τ sig) → Buf (Elt Ideal) ℓ) (c : Dev nD) : FVec Ideal S4x2048x1024 .f32 := m ((c : Thread nD τ).loc main_arg1)
/-- The residual rows. -/
def X (m : (ℓ : Loc nD τ sig) → Buf (Elt Ideal) ℓ) (c : Dev nD) : FVec Ideal S8192x2048 .f32 :=
  shapeCast _ (m ((c : Thread nD τ).loc main_arg2)) shapeCasts_S4x2048x2048_S8192x2048
/-- The weight. -/
def W (m : (ℓ : Loc nD τ sig) → Buf (Elt Ideal) ℓ) (c : Dev nD) : FVec Ideal S1x2048x2048 .f32 := m ((c : Thread nD τ).loc main_arg3)
/-- The layer norm's gain. -/
def gain (m : (ℓ : Loc nD τ sig) → Buf (Elt Ideal) ℓ) (c : Dev nD) : FVec Ideal S2048 .f32 :=
  shapeCast _ (m ((c : Thread nD τ).loc main_arg4)) shapeCasts_S1x2048_S2048
/-- The layer norm's bias. -/
def bias (m : (ℓ : Loc nD τ sig) → Buf (Elt Ideal) ℓ) (c : Dev nD) : FVec Ideal S2048 .f32 :=
  shapeCast _ (m ((c : Thread nD τ).loc main_arg5)) shapeCasts_S1x2048_S2048

theorem V_l : V m c main_v0 = shapeCast S8192x1024 (L m c) shapeCasts_S4x2048x1024_S8192x1024 := by
  unfold V L; after_results <;> rfl
theorem V_k : V m c main_v1 = shapeCast S8192x1024 (K m c) shapeCasts_S4x2048x1024_S8192x1024 := by
  unfold V K; after_results <;> rfl
theorem V_wl : V m c main_v4 = truncf .bf16 (shapeCast S1024x2048 (extractStridedSlice S1x1024x2048 ![0, 0, 0] (W m c)
    slices_S1x2048x2048_S1x1024x2048_0_0_0) shapeCasts_S1x1024x2048_S1024x2048) bitsLt_bf16_f32 := by
  unfold V W; after_results <;> rfl
theorem V_wk : V m c main_v7 = truncf .bf16 (shapeCast S1024x2048 (extractStridedSlice S1x1024x2048 ![0, 1024, 0] (W m c)
    slices_S1x2048x2048_S1x1024x2048_0_1024_0) shapeCasts_S1x1024x2048_S1024x2048) bitsLt_bf16_f32 := by
  unfold V W; after_results <;> rfl
theorem V_x : V m c main_v8 = X m c := by
  unfold V X; after_results <;> rfl
theorem V_g : V m c main_v10 = shapeCast S1x2048 (gain m c) shapeCasts_S2048_S1x2048 := by
  unfold V gain; after_results <;> rfl
theorem V_b : V m c main_v12 = shapeCast S1x2048 (bias m c) shapeCasts_S2048_S1x2048 := by
  unfold V bias; after_results <;> rfl

/-- Which block of each array every grid point reads and writes. -/
theorem idx_in : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

theorem t_lt (t : Fin cfg0.N) : t.val < 32 := lt_of_lt_of_eq t.isLt N_0

/-- The row of the array that row `r` of point `t`'s block is. -/
abbrev rowOf (t : Fin cfg0.N) (r : Fin 256) : Fin 8192 := ⟨256 * t.val + r.val, by have := t_lt t; omega⟩

/-- A mixer's rows at an index, the batch and the time read off one number. -/
abbrev yrow (Y : FVec Ideal S4x2048x1024 .f32) (r : Fin 8192) (d : Fin 1024) : EReal :=
  Y (ix3 ⟨r.val / 2048, by omega⟩ ⟨r.val % 2048, by omega⟩ d)

theorem iblk_l (t : Fin cfg0.N) (r : Fin 256) (d : Fin 1024) :
    (iblk m c 0 t : Vec Ideal S256x1024 .f32) (ix2 r d) = yrow (L m c) (rowOf t r) d := by
  obtain ⟨⟨e0, e1⟩, -⟩ := idx_in t
  have h : (iblk m c 0 t : Vec Ideal S256x1024 .f32) (ix2 r d) = V m c main_v0 (ix2 (rowOf t r) d) := by
    unfold iblk
    rw [View.read_apply]
    show V m c main_v0 _ = V m c main_v0 _
    congr 1
    funext a
    apply Fin.ext
    match a with
    | ⟨0, _⟩ => show win0_0.index t (0 : Fin 2) * 256 + 1 * r.val = 256 * t.val + r.val; omega
    | ⟨1, _⟩ => show win0_0.index t (1 : Fin 2) * 1024 + 1 * d.val = d.val; omega
  rw [h, V_l]
  pointwise [yrow]

theorem iblk_k (t : Fin cfg0.N) (r : Fin 256) (d : Fin 1024) :
    (iblk m c 1 t : Vec Ideal S256x1024 .f32) (ix2 r d) = yrow (K m c) (rowOf t r) d := by
  obtain ⟨-, ⟨e0, e1⟩, -⟩ := idx_in t
  have h : (iblk m c 1 t : Vec Ideal S256x1024 .f32) (ix2 r d) = V m c main_v1 (ix2 (rowOf t r) d) := by
    unfold iblk
    rw [View.read_apply]
    show V m c main_v1 _ = V m c main_v1 _
    congr 1
    funext a
    apply Fin.ext
    match a with
    | ⟨0, _⟩ => show win0_1.index t (0 : Fin 2) * 256 + 1 * r.val = 256 * t.val + r.val; omega
    | ⟨1, _⟩ => show win0_1.index t (1 : Fin 2) * 1024 + 1 * d.val = d.val; omega
  rw [h, V_k]
  pointwise [yrow]

theorem iblk_wl (t : Fin cfg0.N) (d : Fin 1024) (j : Fin 2048) :
    (iblk m c 2 t : Vec Ideal S1024x2048 .bf16) (ix2 d j) = W m c (ix3 0 (Fin.castAdd 1024 d) j) := by
  obtain ⟨-, -, ⟨e0, e1⟩, -⟩ := idx_in t
  have h : (iblk m c 2 t : Vec Ideal S1024x2048 .bf16) (ix2 d j) = V m c main_v4 (ix2 d j) := by
    unfold iblk
    rw [View.read_apply]
    show V m c main_v4 _ = V m c main_v4 _
    congr 1
    funext a
    apply Fin.ext
    match a with
    | ⟨0, _⟩ => show win0_2.index t (0 : Fin 2) * 1024 + 1 * d.val = d.val; omega
    | ⟨1, _⟩ => show win0_2.index t (1 : Fin 2) * 2048 + 1 * j.val = j.val; omega
  rw [h, V_wl]
  pointwise
  all_goals first | rfl | (congr 1)

theorem iblk_wk (t : Fin cfg0.N) (d : Fin 1024) (j : Fin 2048) :
    (iblk m c 3 t : Vec Ideal S1024x2048 .bf16) (ix2 d j) = W m c (ix3 0 (Fin.natAdd 1024 d) j) := by
  obtain ⟨-, -, -, ⟨e0, e1⟩, -⟩ := idx_in t
  have h : (iblk m c 3 t : Vec Ideal S1024x2048 .bf16) (ix2 d j) = V m c main_v7 (ix2 d j) := by
    unfold iblk
    rw [View.read_apply]
    show V m c main_v7 _ = V m c main_v7 _
    congr 1
    funext a
    apply Fin.ext
    match a with
    | ⟨0, _⟩ => show win0_3.index t (0 : Fin 2) * 1024 + 1 * d.val = d.val; omega
    | ⟨1, _⟩ => show win0_3.index t (1 : Fin 2) * 2048 + 1 * j.val = j.val; omega
  rw [h, V_wk]
  pointwise
  all_goals first | rfl | (congr 1)

theorem iblk_x (t : Fin cfg0.N) (r : Fin 256) (d : Fin 2048) :
    (iblk m c 4 t : Vec Ideal S256x2048 .f32) (ix2 r d) = X m c (ix2 (rowOf t r) d) := by
  rw [← V_x]
  obtain ⟨-, -, -, -, ⟨e0, e1⟩, -⟩ := idx_in t
  unfold iblk
  rw [View.read_apply]
  show V m c main_v8 _ = V m c main_v8 _
  congr 1
  funext a
  apply Fin.ext
  match a with
  | ⟨0, _⟩ => show win0_4.index t (0 : Fin 2) * 256 + 1 * r.val = 256 * t.val + r.val; omega
  | ⟨1, _⟩ => show win0_4.index t (1 : Fin 2) * 2048 + 1 * d.val = d.val; omega

theorem iblk_g (t : Fin cfg0.N) (j : Fin 2048) :
    (iblk m c 5 t : Vec Ideal S1x2048 .f32) (ix2 0 j) = gain m c (ix1 j) := by
  obtain ⟨-, -, -, -, -, ⟨e0, e1⟩, -⟩ := idx_in t
  have h : (iblk m c 5 t : Vec Ideal S1x2048 .f32) (ix2 0 j) = V m c main_v10 (ix2 0 j) := by
    unfold iblk
    rw [View.read_apply]
    show V m c main_v10 _ = V m c main_v10 _
    congr 1
    funext a
    apply Fin.ext
    match a with
    | ⟨0, _⟩ => show win0_5.index t (0 : Fin 2) * 1 + 1 * 0 = 0; omega
    | ⟨1, _⟩ => show win0_5.index t (1 : Fin 2) * 2048 + 1 * j.val = j.val; omega
  rw [h, V_g]
  pointwise

theorem iblk_b (t : Fin cfg0.N) (j : Fin 2048) :
    (iblk m c 6 t : Vec Ideal S1x2048 .f32) (ix2 0 j) = bias m c (ix1 j) := by
  obtain ⟨-, -, -, -, -, -, ⟨e0, e1⟩, -⟩ := idx_in t
  have h : (iblk m c 6 t : Vec Ideal S1x2048 .f32) (ix2 0 j) = V m c main_v12 (ix2 0 j) := by
    unfold iblk
    rw [View.read_apply]
    show V m c main_v12 _ = V m c main_v12 _
    congr 1
    funext a
    apply Fin.ext
    match a with
    | ⟨0, _⟩ => show win0_6.index t (0 : Fin 2) * 1 + 1 * 0 = 0; omega
    | ⟨1, _⟩ => show win0_6.index t (1 : Fin 2) * 2048 + 1 * j.val = j.val; omega
  rw [h, V_b]
  pointwise

/-! ## The result -/

/-- The two mixers' rows side by side. -/
abbrev cat (L K : FVec Ideal S4x2048x1024 .f32) : FVec Ideal S4x2048x2048 .f32 :=
  concatenate S4x2048x2048 2 [⟨S4x2048x1024, L⟩, ⟨S4x2048x1024, K⟩] Cert.Reference5Ideal.Gen.concatenates_S4x2048x1024_S4x2048x1024_S4x2048x2048_d2

/-- What the call is worth at row `r`, column `j`: the joined rows through the weight, added to the scaled residual, normalised. -/
def spec (Y : FVec Ideal S8192x2048 .f32) (X : FVec Ideal S8192x2048 .f32) (W : FVec Ideal Cert.Reference5Ideal.S2048x2048 .f32)
    (g b : FVec Ideal S2048 .f32) (r : Fin 8192) (j : Fin 2048) : EReal :=
  lnorm (Ideal.ofBits .f32 0x45000000#32) (Ideal.ofBits .f32 0x3727C5AC#32)
    (fun j => Ideal.ofBits .f32 0x3F9837F0#32 * X (ix2 r j) + ∑ d : Fin 2048, Y (ix2 r d) * W (ix2 d j))
    (fun d => g (ix1 d)) (fun d => b (ix1 d)) j

/-- The weight as a matrix. -/
abbrev mat (W : FVec Ideal S1x2048x2048 .f32) : FVec Ideal Cert.Reference5Ideal.S2048x2048 .f32 :=
  shapeCast _ W Cert.Reference5Ideal.Gen.shapeCasts_S1x2048x2048_S2048x2048

theorem mat_apply (W : FVec Ideal S1x2048x2048 .f32) (d j : Fin 2048) : mat W (ix2 d j) = W (ix3 0 d j) := by
  pointwise

/-- The joined rows as a matrix. -/
abbrev joined (L K : FVec Ideal S4x2048x1024 .f32) : FVec Ideal S8192x2048 .f32 :=
  shapeCast S8192x2048 (cat L K) shapeCasts_S4x2048x2048_S8192x2048

/-- The joined rows, read in the first half. -/
theorem joined_left (L K : FVec Ideal S4x2048x1024 .f32) (r : Fin 8192) (d : Fin 1024) :
    joined L K (ix2 r (Fin.castAdd 1024 d)) = yrow L r d := by
  have hd : ((Fin.castAdd 1024 d : Fin 2048) : ℕ) < 1024 := d.isLt
  pointwise [yrow]
  rw [dif_pos hd]
  rfl

/-- The joined rows, read in the second half. -/
theorem joined_right (L K : FVec Ideal S4x2048x1024 .f32) (r : Fin 8192) (d : Fin 1024) :
    joined L K (ix2 r (Fin.natAdd 1024 d)) = yrow K r d := by
  have hd : ¬ ((Fin.natAdd 1024 d : Fin 2048) : ℕ) < 1024 := by show ¬ 1024 + d.val < 1024; omega
  pointwise [yrow]
  rw [dif_neg hd]
  congr 2
  apply Fin.ext
  show 1024 + d.val - 1024 = d.val
  omega

/-- One product with the joined rows is the two products with the halves. -/
theorem joined_dot (L K : FVec Ideal S4x2048x1024 .f32) (W : FVec Ideal S1x2048x2048 .f32) (r : Fin 8192) (j : Fin 2048) :
    ∑ d : Fin 2048, joined L K (ix2 r d) * mat W (ix2 d j)
      = ∑ d : Fin 1024, yrow L r d * W (ix3 0 (Fin.castAdd 1024 d) j) + ∑ d : Fin 1024, yrow K r d * W (ix3 0 (Fin.natAdd 1024 d) j) := by
  refine (Fin.sum_univ_add (a := 1024) (b := 1024) fun d : Fin 2048 => joined L K (ix2 r d) * mat W (ix2 d j)).trans ?_
  have e1 : ∀ d : Fin 1024, joined L K (ix2 r (Fin.castAdd 1024 d)) = yrow L r d := joined_left L K r
  have e2 : ∀ d : Fin 1024, joined L K (ix2 r (Fin.natAdd 1024 d)) = yrow K r d := joined_right L K r
  have e3 : ∀ d : Fin 2048, mat W (ix2 d j) = W (ix3 0 d j) := fun d => mat_apply W d j
  simp only [e1, e2, e3]

/-- What point `t` leaves in its block, at row `r`, column `j`. -/
theorem block_apply (t : Fin cfg0.N) (r : Fin 256) (j : Fin 2048) :
    out0_7 (iblk m c 0 t) (iblk m c 1 t) (iblk m c 2 t) (iblk m c 3 t) (iblk m c 4 t) (iblk m c 5 t) (iblk m c 6 t) (ix2 r j)
      = spec (joined (L m c) (K m c)) (X m c) (mat (W m c)) (gain m c) (bias m c) (rowOf t r) j := by
  have hl := iblk_l m c t r
  have hk := iblk_k m c t r
  have hwl := iblk_wl m c t
  have hwk := iblk_wk m c t
  have hx := iblk_x m c t r
  have hg := iblk_g m c t
  have hb := iblk_b m c t
  refine (out_apply _ _ _ _ _ _ _ r j).trans ?_
  unfold spec pre
  simp only [hl, hk, hwl, hwk, hx, hg, hb, joined_dot]

theorem flush_all : ∀ t : Fin cfg0.N, win0_7.flush t = true :=
  (by decide +kernel : ∀ t : Fin grid0.N, win0_7.flush t = true)

/-- The result array under point `t`'s block. -/
theorem read_block (t : Fin cfg0.N) (q : Fin 256) (j : Fin 2048) :
    ((dats m 0 c).arrAt 7 cfg0.N : Vec Ideal S8192x2048 .f32) (ix2 (rowOf t q) j)
      = spec (joined (L m c) (K m c)) (X m c) (mat (W m c)) (gain m c) (bias m c) (rowOf t q) j := by
  have h := congrFun ((blocks7 m c t (flush_all t)).trans (flushed7 m c t)) (ix2 q j)
  rw [View.read_apply] at h
  refine Eq.trans (congrArg _ ?_) (h.trans (block_apply m c t q j))
  obtain ⟨-, -, -, -, -, -, -, e0, e1⟩ := idx_in t
  funext a
  apply Fin.ext
  match a with
  | ⟨0, _⟩ => show 256 * t.val + q.val = win0_7.index t (0 : Fin 2) * 256 + 1 * q.val; omega
  | ⟨1, _⟩ => show j.val = win0_7.index t (1 : Fin 2) * 2048 + 1 * j.val; omega

/-- The call's result array at row `r`, column `j`. -/
theorem out_row (r : Fin 8192) (j : Fin 2048) :
    ((dats m 0 c).arrAt 7 cfg0.N : Vec Ideal S8192x2048 .f32) (ix2 r j)
      = spec (joined (L m c) (K m c)) (X m c) (mat (W m c)) (gain m c) (bias m c) r j := by
  obtain ⟨t, ht⟩ : ∃ t : Fin cfg0.N, t.val = r.val / 256 := ⟨⟨r.val / 256, by show _ < grid0.N; rw [N_0]; omega⟩, rfl⟩
  obtain ⟨q, hq⟩ : ∃ q : Fin 256, q.val = r.val % 256 := ⟨⟨r.val % 256, Nat.mod_lt _ (by decide)⟩, rfl⟩
  have hrow : rowOf t q = r := by apply Fin.ext; show 256 * t.val + q.val = r.val; omega
  rw [← hrow]
  exact read_block m c t q j

end Cert.Layer.OutProj

namespace Cert.Layer.OutProj

open Cert.Reference5Ideal Cert.Reference5Ideal.Gen Cert.Reference5Ideal.Value Idealize.ShloMosaic Idealize.ShloMosaic.TcCoe

/-- The reference's result at row `r`, column `j`. -/
theorem res_apply (m : (ℓ : Loc nD τ sig) → Buf (Elt Ideal) ℓ) (c : Dev nD) (r : Fin 8192) (j : Fin 2048) :
    res_out0 m c (ix2 r j)
      = spec (joined (m ((c.tc : Thread nD τ).loc main_arg0)) (m ((c.tc : Thread nD τ).loc main_arg1)))
          (shapeCast _ (m ((c.tc : Thread nD τ).loc main_arg2)) shapeCasts_S4x2048x2048_S8192x2048)
          (mat (m ((c.tc : Thread nD τ).loc main_arg3)))
          (shapeCast _ (m ((c.tc : Thread nD τ).loc main_arg4)) shapeCasts_S1x2048_S2048)
          (shapeCast _ (m ((c.tc : Thread nD τ).loc main_arg5)) shapeCasts_S1x2048_S2048) r j := by
  unfold res_out0 res_main_v33 joined cat mat
  generalize shapeCast _ (concatenate _ _ _ _) _ = y
  generalize shapeCast _ (m ((c.tc : Thread nD τ).loc main_arg2)) shapeCasts_S4x2048x2048_S8192x2048 = x
  generalize shapeCast _ (m ((c.tc : Thread nD τ).loc main_arg3)) _ = w
  generalize shapeCast _ (m ((c.tc : Thread nD τ).loc main_arg4)) shapeCasts_S1x2048_S2048 = g
  generalize shapeCast _ (m ((c.tc : Thread nD τ).loc main_arg5)) shapeCasts_S1x2048_S2048 = b
  pointwise [spec, lnorm]

end Cert.Layer.OutProj

end
-- ==== Proof.XAttn.lean ====
/-
  Cross-attention to the memory: per batch entry the keys and values are copied once and kept, and for every block of rows
  the call projects the queries, takes four heads' softmax attention one after the other, multiplies the heads laid side by
  side by the output weight, adds the scaled residual and normalises the row.
-/
module

public import proofs.«01_k».proof.Proof.Sums
public import proofs.«01_k».proof.Proof.Gen.Kernel6Ideal.Value

@[expose] public section

noncomputable section

namespace Cert.Layer.XAttn

open Cert.Kernel6Ideal Cert.Kernel6Ideal.Gen Cert.Kernel6Ideal.Value Idealize.ShloMosaic Idealize.ShloMosaic.TcCoe Idealize.SL.Sem

/-! ## The mathematics of one row -/

/-- The greatest of a row of scores. -/
def top (s : Fin 256 → EReal) : EReal := Finset.fold max (Ideal.ofBits .f32 0xFF800000#32) s Finset.univ

/-- The softmax of a row of scores. -/
def softmax (s : Fin 256 → EReal) (n : Fin 256) : EReal :=
  Ideal.div (Ideal.exp (s n - top s)) (∑ k : Fin 256, Ideal.exp (s k - top s))

/-- One head's attention: the scaled scores' softmax against the values. -/
def headv (q : Fin 512 → EReal) (k v : Fin 256 → Fin 512 → EReal) (d : Fin 512) : EReal :=
  ∑ n : Fin 256, softmax (fun n => (∑ d : Fin 512, q d * k n d) * Ideal.ofBits .f32 0x3D3504F3#32) n * v n d

/-- The column of head `h`'s lane `d`. -/
abbrev col (h : Fin 4) (d : Fin 512) : Fin 2048 := ⟨512 * h.val + d.val, by omega⟩
/-- The head of a column. -/
abbrev hd (e : Fin 2048) : Fin 4 := ⟨e.val / 512, by omega⟩
/-- The lane of a column within its head. -/
abbrev lane (e : Fin 2048) : Fin 512 := ⟨e.val % 512, Nat.mod_lt _ (by decide)⟩

/-- Head `h` of a row: its query projected, then its attention. -/
def att (x : Fin 2048 → EReal) (wq : Fin 2048 → Fin 2048 → EReal) (k v : Fin 256 → Fin 4 → Fin 512 → EReal) (h : Fin 4) (d : Fin 512) : EReal :=
  headv (fun d => ∑ i : Fin 2048, x i * wq i (col h d)) (fun n d => k n h d) (fun n d => v n h d) d

/-- The row the call normalises. -/
def pre (x : Fin 2048 → EReal) (wq : Fin 2048 → Fin 2048 → EReal) (k v : Fin 256 → Fin 4 → Fin 512 → EReal) (wo : Fin 2048 → Fin 2048 → EReal)
    (j : Fin 2048) : EReal :=
  Ideal.ofBits .f32 0x3F9837F0#32 * x j + ∑ e : Fin 2048, att x wq k v (hd e) (lane e) * wo e j

/-! ## The body -/

/-- One head as the body computes it. -/
def attn (q : FVec Ideal S256x512 .f32) (k v : FVec Ideal S256x512 .bf16) : FVec Ideal S256x512 .bf16 :=
  have s : FVec Ideal S256x256 .f32 := mulf (matmul dot_S256x512_S256x512_S256x256_1_1_0_0_n_n none (truncf .bf16 q bitsLt_bf16_f32) k
    (constant S256x256 .f32 0x00000000#32)) (broadcast S256x256 (Scalar.ofBits .f32 0x3D3504F3#32))
  have mx : FVec Ideal S256x1 .f32 := shapeCast S256x1 (multiReduction .maximumf [1] S256 s 0xFF800000#32 reduces_S256x256_S256 (.inl rfl) rfl)
    shapeCasts_S256_S256x1
  have ex : FVec Ideal S256x256 .f32 := exp (subf s (broadcastTo S256x256 mx broadcasts_S256x1_S256x256))
  have sm : FVec Ideal S256x1 .f32 := shapeCast S256x1 (multiReduction .add [1] S256 ex 0x00000000#32 reduces_S256x256_S256 (.inl rfl) rfl)
    shapeCasts_S256_S256x1
  have p : FVec Ideal S256x256 .f32 := divf ex (broadcastTo S256x256 sm broadcasts_S256x1_S256x256)
  truncf .bf16 (matmul dot_S256x256_S256x512_S256x512_1_0_0_1_n_n none (truncf .bf16 p bitsLt_bf16_f32) v (constant S256x512 .f32 0x00000000#32))
    bitsLt_bf16_f32

theorem attn_apply (q : FVec Ideal S256x512 .f32) (k v : FVec Ideal S256x512 .bf16) (r : Fin 256) (d : Fin 512) :
    attn q k v (ix2 r d) = headv (fun d => q (ix2 r d)) (fun n d => k (ix2 n d)) (fun n d => v (ix2 n d)) d := by
  pointwise [attn, headv, softmax, top]

/-- Four heads laid side by side. -/
abbrev cat4 (a b c d : FVec Ideal S256x512 .bf16) : FVec Ideal S256x2048 .bf16 :=
  concatenate S256x2048 1 [⟨S256x512, a⟩, ⟨S256x512, b⟩, ⟨S256x512, c⟩, ⟨S256x512, d⟩]
    concatenates_S256x512_S256x512_S256x512_S256x512_S256x2048_d1

theorem cat4_apply (a b c d : FVec Ideal S256x512 .bf16) (r : Fin 256) (H : Fin 4 → Fin 512 → EReal)
    (h0 : ∀ l, a (ix2 r l) = H 0 l) (h1 : ∀ l, b (ix2 r l) = H 1 l) (h2 : ∀ l, c (ix2 r l) = H 2 l) (h3 : ∀ l, d (ix2 r l) = H 3 l)
    (e : Fin 2048) : cat4 a b c d (ix2 r e) = H (hd e) (lane e) := by
  pointwise [h0, h1, h2, h3]
  split_ifs
  all_goals
    refine congrArg₂ H ?_ ?_ <;> apply Fin.ext <;> simp <;> omega

/-- What is left of the body after the heads: the output product, the residual and the layer norm. -/
theorem tail_apply (x : FVec Ideal S256x2048 .f32) (q : FVec Ideal S256x2048 .f32) (a b c : FVec Ideal S256x512 .bf16) (k v : FVec Ideal S256x512 .bf16)
    (wo : FVec Ideal S2048x2048 .bf16) (g bi : FVec Ideal S1x2048 .f32) (r : Fin 256) (j : Fin 2048) :
    k0_pay12 x a b c (k0_pay10 q k) v (k0_pay11 q k) wo g bi (ix2 r j)
      = lnorm (Ideal.ofBits .f32 0x45000000#32) (Ideal.ofBits .f32 0x3727C5AC#32)
          (fun j => Ideal.ofBits .f32 0x3F9837F0#32 * x (ix2 r j) + ∑ e : Fin 2048,
            cat4 a b c (attn (extractStridedSlice S256x512 ![0, 1536] q slices_S256x2048_o0_1536_S256x512) k v) (ix2 r e) * wo (ix2 e j))
          (fun j => g (ix2 0 j)) (fun j => bi (ix2 0 j)) j := by
  have h : ∀ A : FVec Ideal S256x2048 .bf16, cat4 a b c (attn (extractStridedSlice S256x512 ![0, 1536] q slices_S256x2048_o0_1536_S256x512) k v) = A →
      k0_pay12 x a b c (k0_pay10 q k) v (k0_pay11 q k) wo g bi (ix2 r j)
        = lnorm (Ideal.ofBits .f32 0x45000000#32) (Ideal.ofBits .f32 0x3727C5AC#32)
            (fun j => Ideal.ofBits .f32 0x3F9837F0#32 * x (ix2 r j) + ∑ e : Fin 2048, A (ix2 r e) * wo (ix2 e j))
            (fun j => g (ix2 0 j)) (fun j => bi (ix2 0 j)) j := by
    intro A hA
    unfold k0_pay12
    dsimp only
    generalize hB : concatenate S256x2048 1 _ _ = B
    obtain rfl : B = A := hB.symm.trans hA
    clear hA hB
    pointwise [lnorm]
  exact h _ rfl

/-- The first head, -/
theorem pay6_eq (x0 : Vec Ideal S1x256x2048 .f32) (x3 : Vec Ideal S2048x2048 .bf16) (k v : Vec Ideal S256x512 .bf16) :
    k0_pay6 x0 x3 k v = attn (extractStridedSlice S256x512 ![0, 0] (k0_pay5 x0 x3) slices_S256x2048_o0_0_S256x512) k v := rfl
/-- the second -/
theorem pay8_eq (x0 : Vec Ideal S1x256x2048 .f32) (x3 : Vec Ideal S2048x2048 .bf16) (k v : Vec Ideal S256x512 .bf16) :
    k0_pay8 (k0_pay7 x0 x3 k) v = attn (extractStridedSlice S256x512 ![0, 512] (k0_pay5 x0 x3) slices_S256x2048_o0_512_S256x512) k v := rfl
/-- and the third, each as the one head's function. -/
theorem pay9_eq (q : FVec Ideal S256x2048 .f32) (k v : Vec Ideal S256x512 .bf16) :
    k0_pay9 q k v = attn (extractStridedSlice S256x512 ![0, 1024] q slices_S256x2048_o0_1024_S256x512) k v := rfl

/-- The block the body leaves behind, from the rows, the copied keys and values and the weights. -/
def body (x0 : Vec Ideal S1x256x2048 .f32) (x3 : Vec Ideal S2048x2048 .bf16) (kb vb : Vec Ideal S256x2048 .bf16) (x4 : Vec Ideal S2048x2048 .bf16)
    (x5 x6 : Vec Ideal S1x2048 .f32) : Vec Ideal S1x256x2048 .f32 :=
  k0_pay1 (k0_pay12 (k0_pay4 x0)
    (k0_pay6 x0 x3 (View.ld kb (Rect.unit ![0, 0] ![256, 512] inb_S256x2048_S256x512_0_0)) (View.ld vb (Rect.unit ![0, 0] ![256, 512] inb_S256x2048_S256x512_0_0)))
    (k0_pay8 (k0_pay7 x0 x3 (View.ld kb (Rect.unit ![0, 512] ![256, 512] inb_S256x2048_S256x512_0_512)))
      (View.ld vb (Rect.unit ![0, 512] ![256, 512] inb_S256x2048_S256x512_0_512)))
    (k0_pay9 (k0_pay5 x0 x3) (View.ld kb (Rect.unit ![0, 1024] ![256, 512] inb_S256x2048_S256x512_0_1024))
      (View.ld vb (Rect.unit ![0, 1024] ![256, 512] inb_S256x2048_S256x512_0_1024)))
    (k0_pay10 (k0_pay5 x0 x3) (View.ld kb (Rect.unit ![0, 1536] ![256, 512] inb_S256x2048_S256x512_0_1536)))
    (View.ld vb (Rect.unit ![0, 1536] ![256, 512] inb_S256x2048_S256x512_0_1536))
    (k0_pay11 (k0_pay5 x0 x3) (View.ld kb (Rect.unit ![0, 1536] ![256, 512] inb_S256x2048_S256x512_0_1536))) x4 x5 x6)

theorem proj_apply (x0 : Vec Ideal S1x256x2048 .f32) (x3 : Vec Ideal S2048x2048 .bf16) (r : Fin 256) (e : Fin 2048) :
    k0_pay5 x0 x3 (ix2 r e) = ∑ i : Fin 2048, x0 (ix3 0 r i) * x3 (ix2 i e) := by
  pointwise [k0_pay5, k0_pay4]

/-- A head of the body is the head of the row, whichever four windows it reads its operands through. -/
theorem head_apply (x0 : Vec Ideal S1x256x2048 .f32) (x3 : Vec Ideal S2048x2048 .bf16) (kb vb : Vec Ideal S256x2048 .bf16) (h : Fin 4)
    (q : FVec Ideal S256x512 .f32) (k v : FVec Ideal S256x512 .bf16) (r : Fin 256)
    (hq : ∀ d, q (ix2 r d) = k0_pay5 x0 x3 (ix2 r (col h d))) (hk : ∀ n d, k (ix2 n d) = kb (ix2 n (col h d)))
    (hv : ∀ n d, v (ix2 n d) = vb (ix2 n (col h d))) (d : Fin 512) :
    attn q k v (ix2 r d) = att (fun i => x0 (ix3 0 r i)) (fun i e => x3 (ix2 i e)) (fun n h d => kb (ix2 n (col h d))) (fun n h d => vb (ix2 n (col h d))) h d := by
  rw [attn_apply]
  unfold att
  simp only [hq, hk, hv, proj_apply]

/-- A window of 512 columns of the copied keys or values. -/
theorem win_apply (kb : Vec Ideal S256x2048 .bf16) (o : ℕ) (inb) (h : Fin 4) (ho : o = 512 * h.val) (n : Fin 256) (d : Fin 512) :
    View.ld kb (Rect.unit (s := S256x2048) ![0, o] ![256, 512] inb) (ix2 n d) = kb (ix2 n (col h d)) := by
  show kb _ = kb _
  congr 1
  funext a
  apply Fin.ext
  match a with
  | ⟨0, _⟩ => show 0 + 1 * n.val = n.val; omega
  | ⟨1, _⟩ => show o + 1 * d.val = 512 * h.val + d.val; omega

/-- A window of 512 columns of the queries. -/
theorem slice_apply (q : FVec Ideal S256x2048 .f32) (o : ℕ) (hs) (h : Fin 4) (ho : o = 512 * h.val) (r : Fin 256) (d : Fin 512) :
    extractStridedSlice S256x512 ![0, o] q hs (ix2 r d) = q (ix2 r (col h d)) := by
  subst ho
  pointwise

theorem body_apply (x0 : Vec Ideal S1x256x2048 .f32) (x3 : Vec Ideal S2048x2048 .bf16) (kb vb : Vec Ideal S256x2048 .bf16) (x4 : Vec Ideal S2048x2048 .bf16)
    (x5 x6 : Vec Ideal S1x2048 .f32) (r : Fin 256) (j : Fin 2048) :
    body x0 x3 kb vb x4 x5 x6 (ix3 0 r j)
      = lnorm (Ideal.ofBits .f32 0x45000000#32) (Ideal.ofBits .f32 0x3727C5AC#32)
          (pre (fun i => x0 (ix3 0 r i)) (fun i e => x3 (ix2 i e)) (fun n h d => kb (ix2 n (col h d))) (fun n h d => vb (ix2 n (col h d)))
            (fun e j => x4 (ix2 e j)))
          (fun j => x5 (ix2 0 j)) (fun j => x6 (ix2 0 j)) j := by
  have h1 : ∀ y : FVec Ideal S256x2048 .f32, k0_pay1 y (ix3 0 r j) = y (ix2 r j) := fun y => by pointwise [k0_pay1]
  have h4 : ∀ j, k0_pay4 x0 (ix2 r j) = x0 (ix3 0 r j) := fun j => by pointwise [k0_pay4]
  unfold body
  rw [pay6_eq, pay8_eq, pay9_eq, h1, tail_apply]
  have hc := cat4_apply _ _ _ _ r (att (fun i => x0 (ix3 0 r i)) (fun i e => x3 (ix2 i e)) (fun n h d => kb (ix2 n (col h d))) (fun n h d => vb (ix2 n (col h d))))
    (head_apply x0 x3 kb vb 0 (extractStridedSlice S256x512 ![0, 0] (k0_pay5 x0 x3) slices_S256x2048_o0_0_S256x512) _ _ r
      (fun d => slice_apply _ 0 _ 0 rfl r d) (win_apply kb 0 inb_S256x2048_S256x512_0_0 0 rfl) (win_apply vb 0 inb_S256x2048_S256x512_0_0 0 rfl))
    (head_apply x0 x3 kb vb 1 (extractStridedSlice S256x512 ![0, 512] (k0_pay5 x0 x3) slices_S256x2048_o0_512_S256x512) _ _ r
      (fun d => slice_apply _ 512 _ 1 rfl r d) (win_apply kb 512 inb_S256x2048_S256x512_0_512 1 rfl) (win_apply vb 512 inb_S256x2048_S256x512_0_512 1 rfl))
    (head_apply x0 x3 kb vb 2 (extractStridedSlice S256x512 ![0, 1024] (k0_pay5 x0 x3) slices_S256x2048_o0_1024_S256x512) _ _ r
      (fun d => slice_apply _ 1024 _ 2 rfl r d) (win_apply kb 1024 inb_S256x2048_S256x512_0_1024 2 rfl) (win_apply vb 1024 inb_S256x2048_S256x512_0_1024 2 rfl))
    (head_apply x0 x3 kb vb 3 (extractStridedSlice S256x512 ![0, 1536] (k0_pay5 x0 x3) slices_S256x2048_o0_1536_S256x512) _ _ r
      (fun d => slice_apply _ 1536 _ 3 rfl r d) (win_apply kb 1536 inb_S256x2048_S256x512_0_1536 3 rfl) (win_apply vb 1536 inb_S256x2048_S256x512_0_1536 3 rfl))
  unfold pre
  simp only [h4, hc]

section Body
variable (c : Dev nD) (i : grid0.Coords) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S2048x2048 .bf16) (harg5 : arg5.IsWhole) (arg6 : Memref sig .tc .vmem S2048x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x256x2048 .f32) (harg9 : arg9.IsWhole) (arg10 : Memref sig .tc .vmem S256x2048 .bf16) (harg10 : arg10.IsWhole) (arg11 : Memref sig .tc .vmem S256x2048 .bf16) (harg11 : arg11.IsWhole)
    (x0 : Vec Ideal S1x256x2048 .f32) (x1 : Vec Ideal S1x256x2048 .f32) (x2 : Vec Ideal S1x256x2048 .f32) (x3 : Vec Ideal S2048x2048 .bf16) (x4 : Vec Ideal S2048x2048 .bf16) (x5 : Vec Ideal S1x2048 .f32) (x6 : Vec Ideal S1x2048 .f32)

/-- At a batch entry's first block the copies are of the keys … -/
theorem copyK_A (hc0 : cond0_0 i) :
    sout0_A_0 c i arg2 harg2 arg3 harg3 arg4 harg4 arg5 harg5 arg6 harg6 arg7 harg7 arg8 harg8 arg9 harg9 arg10 harg10 arg11 harg11 hc0 x0 x1 x2 x3 x4 x5 x6 = k0_pay2 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread,
    harg8.read_unread, harg10.read_unread, harg11.read_unread, View.ld_unit_zero (S := S1x256x2048) hz3, View.ld_unit_zero (S := S2048x2048) hz2,
    View.ld_unit_zero (S := S1x2048) hz2]

/-- … and of the values; -/
theorem copyV_A (hc0 : cond0_0 i) :
    sout0_A_1 c i arg2 harg2 arg3 harg3 arg4 harg4 arg5 harg5 arg6 harg6 arg7 harg7 arg8 harg8 arg9 harg9 arg10 harg10 arg11 harg11 hc0 x0 x1 x2 x3 x4 x5 x6 = k0_pay3 x2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread,
    harg8.read_unread, harg10.read_unread, harg11.read_unread, View.ld_unit_zero (S := S1x256x2048) hz3, View.ld_unit_zero (S := S2048x2048) hz2,
    View.ld_unit_zero (S := S1x2048) hz2]

/-- the block is computed from those copies, -/
theorem out_A (hc0 : cond0_0 i) :
    out0_A_7 c i arg2 harg2 arg3 harg3 arg4 harg4 arg5 harg5 arg6 harg6 arg7 harg7 arg8 harg8 arg9 harg9 arg10 harg10 arg11 harg11 hc0 x0 x1 x2 x3 x4 x5 x6 = body x0 x3 (k0_pay2 x1) (k0_pay3 x2) x4 x5 x6 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz3]
  simp only [View.readAt_eq_ld, harg2.read_unread, harg3.read_unread, harg4.read_unread, harg5.read_unread, harg6.read_unread, harg7.read_unread,
    harg8.read_unread, harg10.read_unread, harg11.read_unread, View.ld_unit_zero (S := S1x256x2048) hz3, View.ld_unit_zero (S := S2048x2048) hz2,
    View.ld_unit_zero (S := S1x2048) hz2]
  have hf : ∀ (ref : View sig .tc .vmem S256x2048 .bf16) (Z : S256x2048.Idx → Elt Ideal .bf16) (r : Rect S256x2048),
      ref.readCov [⟨Rect.unit ![0, 0] ![256, 2048] inb_S256x2048_S256x2048_0_0, Z⟩] r.toLoadRect = View.ld Z r :=
    fun ref Z r => by rw [View.readCov_eq_canon', View.canon_unit_zero hz2]
  simp only [hf]
  rfl

/-- and at its later blocks from the copies carried along. -/
theorem out_B (hc0 : ¬cond0_0 i) (xs0 xs1 : Vec Ideal S256x2048 .bf16) :
    out0_B_7 c i arg2 harg2 arg3 harg3 arg4 harg4 arg5 harg5 arg6 harg6 arg7 harg7 arg8 harg8 arg9 harg9 arg10 harg10 arg11 harg11 hc0 x0 x1 x2 x3 x4 x5 x6 xs0 xs1 = body x0 x3 xs0 xs1 x4 x5 x6 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 x6 xs0 xs1)]
  unfold kernelRun0_B
  dsimp only
  sl_unfold_words
  rw [View.canon_unit_zero hz3]
  simp only [View.readAt_eq_ld, harg2.read_unread, harg3.read_unread, harg4.read_unread, harg5.read_unread, harg6.read_unread, harg7.read_unread,
    harg8.read_unread, harg10.read_unread, harg11.read_unread, View.ld_unit_zero (S := S1x256x2048) hz3, View.ld_unit_zero (S := S2048x2048) hz2,
    View.ld_unit_zero (S := S1x2048) hz2]
  rfl

end Body

/-! ## The arrays the call reads, and its blocks -/

variable (m : (ℓ : Loc nD τ sig) → Buf (Elt Ideal) ℓ) (c : Dev nD)

/-- The rows. -/
def X (m : (ℓ : Loc nD τ sig) → Buf (Elt Ideal) ℓ) (c : Dev nD) : FVec Ideal S4x2048x2048 .f32 := m ((c : Thread nD τ).loc main_arg0)
/-- The memory's keys. -/
def K (m : (ℓ : Loc nD τ sig) → Buf (Elt Ideal) ℓ) (c : Dev nD) : FVec Ideal S4x256x4x512 .f32 := m ((c : Thread nD τ).loc main_arg1)
/-- The memory's values. -/
def U (m : (ℓ : Loc nD τ sig) → Buf (Elt Ideal) ℓ) (c : Dev nD) : FVec Ideal S4x256x4x512 .f32 := m ((c : Thread nD τ).loc main_arg2)
/-- The query weight. -/
def Wq (m : (ℓ : Loc nD τ sig) → Buf (Elt Ideal) ℓ) (c : Dev nD) : FVec Ideal S2048x2048 .f32 :=
  shapeCast _ (m ((c : Thread nD τ).loc main_arg3)) shapeCasts_S1x2048x2048_S2048x2048
/-- The output weight. -/
def Wo (m : (ℓ : Loc nD τ sig) → Buf (Elt Ideal) ℓ) (c : Dev nD) : FVec Ideal S2048x2048 .f32 :=
  shapeCast _ (m ((c : Thread nD τ).loc main_arg4)) shapeCasts_S1x2048x2048_S2048x2048
/-- The layer norm's gain. -/
def gain (m : (ℓ : Loc nD τ sig) → Buf (Elt Ideal) ℓ) (c : Dev nD) : FVec Ideal S2048 .f32 :=
  shapeCast _ (m ((c : Thread nD τ).loc main_arg5)) shapeCasts_S1x2048_S2048
/-- The layer norm's bias. -/
def bias (m : (ℓ : Loc nD τ sig) → Buf (Elt Ideal) ℓ) (c : Dev nD) : FVec Ideal S2048 .f32 :=
  shapeCast _ (m ((c : Thread nD τ).loc main_arg6)) shapeCasts_S1x2048_S2048

theorem V_k : V m c main_v0 = shapeCast S4x256x2048 (K m c) shapeCasts_S4x256x4x512_S4x256x2048 := by
  unfold V K; after_results <;> rfl
theorem V_v : V m c main_v1 = shapeCast S4x256x2048 (U m c) shapeCasts_S4x256x4x512_S4x256x2048 := by
  unfold V U; after_results <;> rfl
theorem V_wq : V m c main_v3 = truncf .bf16 (Wq m c) bitsLt_bf16_f32 := by
  unfold V Wq; after_results <;> rfl
theorem V_wo : V m c main_v5 = truncf .bf16 (Wo m c) bitsLt_bf16_f32 := by
  unfold V Wo; after_results <;> rfl
theorem V_g : V m c main_v7 = shapeCast S1x2048 (gain m c) shapeCasts_S2048_S1x2048 := by
  unfold V gain; after_results <;> rfl
theorem V_b : V m c main_v9 = shapeCast S1x2048 (bias m c) shapeCasts_S2048_S1x2048 := by
  unfold V bias; after_results <;> rfl

/-- Which block of each array every grid point reads. -/
theorem idx_in : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = 0 ∧ win0_1.index t (2 : Fin 3) = 0)
    ∧ (win0_2.index t (0 : Fin 3) = t.val / 8 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

theorem n_lt {n : ℕ} (h : n < cfg0.N) : n < 32 := lt_of_lt_of_eq h N_0

/-- The batch entry point `n` works on. -/
abbrev batch (n : ℕ) (h : n < cfg0.N) : Fin 4 := ⟨n / 8, by have := n_lt h; omega⟩
/-- The time that row `r` of point `n`'s block is. -/
abbrev time (n : ℕ) (r : Fin 256) : Fin 2048 := ⟨256 * (n % 8) + r.val, by omega⟩

theorem pay2_apply (x : Vec Ideal S1x256x2048 .f32) (n : Fin 256) (e : Fin 2048) : k0_pay2 x (ix2 n e) = x (ix3 0 n e) := by
  pointwise [k0_pay2]

theorem pay3_apply (x : Vec Ideal S1x256x2048 .f32) (n : Fin 256) (e : Fin 2048) : k0_pay3 x (ix2 n e) = x (ix3 0 n e) := by
  pointwise [k0_pay3]

/-- Keys or values with the heads laid side by side, read at a head's column. -/
theorem cast_apply (K : FVec Ideal S4x256x4x512 .f32) (b : Fin 4) (n : Fin 256) (h : Fin 4) (d : Fin 512) :
    shapeCast S4x256x2048 K shapeCasts_S4x256x4x512_S4x256x2048 (ix3 b n (col h d)) = K (ix4 b n h d) := by
  have e1 : (⟨(512 * h.val + d.val) / 512, by omega⟩ : Fin 4) = h := Fin.ext (by show (512 * h.val + d.val) / 512 = h.val; omega)
  have e2 : (⟨(512 * h.val + d.val) % 512, Nat.mod_lt _ (by decide)⟩ : Fin 512) = d := Fin.ext (by show (512 * h.val + d.val) % 512 = d.val; omega)
  pointwise
  rw [e1, e2]

theorem iblk_x (t : Fin cfg0.N) (r : Fin 256) (d : Fin 2048) :
    (iblk m c 0 t : Vec Ideal S1x256x2048 .f32) (ix3 0 r d) = X m c (ix3 (batch t.val t.isLt) (time t.val r) d) := by
  obtain ⟨⟨e0, e1, e2⟩, -⟩ := idx_in t
  have h : (iblk m c 0 t : Vec Ideal S1x256x2048 .f32) (ix3 0 r d) = V m c main_arg0 (ix3 (batch t.val t.isLt) (time t.val r) d) := by
    unfold iblk
    rw [View.read_apply]
    show V m c main_arg0 _ = V m c main_arg0 _
    congr 1
    funext a
    apply Fin.ext
    match a with
    | ⟨0, _⟩ => show win0_0.index t (0 : Fin 3) * 1 + 1 * 0 = t.val / 8; omega
    | ⟨1, _⟩ => show win0_0.index t (1 : Fin 3) * 256 + 1 * r.val = 256 * (t.val % 8) + r.val; omega
    | ⟨2, _⟩ => show win0_0.index t (2 : Fin 3) * 2048 + 1 * d.val = d.val; omega
  rw [h, V_main_arg0]
  rfl

theorem iblk_k (t : Fin cfg0.N) (n : Fin 256) (h : Fin 4) (d : Fin 512) :
    (iblk m c 1 t : Vec Ideal S1x256x2048 .f32) (ix3 0 n (col h d)) = K m c (ix4 (batch t.val t.isLt) n h d) := by
  obtain ⟨-, ⟨e0, e1, e2⟩, -⟩ := idx_in t
  have h : (iblk m c 1 t : Vec Ideal S1x256x2048 .f32) (ix3 0 n (col h d)) = V m c main_v0 (ix3 (batch t.val t.isLt) n (col h d)) := by
    unfold iblk
    rw [View.read_apply]
    show V m c main_v0 _ = V m c main_v0 _
    congr 1
    funext a
    apply Fin.ext
    match a with
    | ⟨0, _⟩ => show win0_1.index t (0 : Fin 3) * 1 + 1 * 0 = t.val / 8; omega
    | ⟨1, _⟩ => show win0_1.index t (1 : Fin 3) * 256 + 1 * n.val = n.val; omega
    | ⟨2, _⟩ => show win0_1.index t (2 : Fin 3) * 2048 + 1 * (512 * h.val + d.val) = 512 * h.val + d.val; omega
  rw [h, V_k]
  exact cast_apply _ _ _ _ _

theorem iblk_v (t : Fin cfg0.N) (n : Fin 256) (h : Fin 4) (d : Fin 512) :
    (iblk m c 2 t : Vec Ideal S1x256x2048 .f32) (ix3 0 n (col h d)) = U m c (ix4 (batch t.val t.isLt) n h d) := by
  obtain ⟨-, -, ⟨e0, e1, e2⟩, -⟩ := idx_in t
  have h : (iblk m c 2 t : Vec Ideal S1x256x2048 .f32) (ix3 0 n (col h d)) = V m c main_v1 (ix3 (batch t.val t.isLt) n (col h d)) := by
    unfold iblk
    rw [View.read_apply]
    show V m c main_v1 _ = V m c main_v1 _
    congr 1
    funext a
    apply Fin.ext
    match a with
    | ⟨0, _⟩ => show win0_2.index t (0 : Fin 3) * 1 + 1 * 0 = t.val / 8; omega
    | ⟨1, _⟩ => show win0_2.index t (1 : Fin 3) * 256 + 1 * n.val = n.val; omega
    | ⟨2, _⟩ => show win0_2.index t (2 : Fin 3) * 2048 + 1 * (512 * h.val + d.val) = 512 * h.val + d.val; omega
  rw [h, V_v]
  exact cast_apply _ _ _ _ _

theorem iblk_wq (t : Fin cfg0.N) (i : Fin 2048) (e : Fin 2048) :
    (iblk m c 3 t : Vec Ideal S2048x2048 .bf16) (ix2 i e) = Wq m c (ix2 i e) := by
  obtain ⟨-, -, -, ⟨e0, e1⟩, -⟩ := idx_in t
  have h : (iblk m c 3 t : Vec Ideal S2048x2048 .bf16) (ix2 i e) = V m c main_v3 (ix2 i e) := by
    unfold iblk
    rw [View.read_apply]
    show V m c main_v3 _ = V m c main_v3 _
    congr 1
    funext a
    apply Fin.ext
    match a with
    | ⟨0, _⟩ => show win0_3.index t (0 : Fin 2) * 2048 + 1 * i.val = i.val; omega
    | ⟨1, _⟩ => show win0_3.index t (1 : Fin 2) * 2048 + 1 * e.val = e.val; omega
  rw [h, V_wq]
  pointwise

theorem iblk_wo (t : Fin cfg0.N) (i : Fin 2048) (e : Fin 2048) :
    (iblk m c 4 t : Vec Ideal S2048x2048 .bf16) (ix2 i e) = Wo m c (ix2 i e) := by
  obtain ⟨-, -, -, -, ⟨e0, e1⟩, -⟩ := idx_in t
  have h : (iblk m c 4 t : Vec Ideal S2048x2048 .bf16) (ix2 i e) = V m c main_v5 (ix2 i e) := by
    unfold iblk
    rw [View.read_apply]
    show V m c main_v5 _ = V m c main_v5 _
    congr 1
    funext a
    apply Fin.ext
    match a with
    | ⟨0, _⟩ => show win0_4.index t (0 : Fin 2) * 2048 + 1 * i.val = i.val; omega
    | ⟨1, _⟩ => show win0_4.index t (1 : Fin 2) * 2048 + 1 * e.val = e.val; omega
  rw [h, V_wo]
  pointwise

theorem iblk_g (t : Fin cfg0.N) (j : Fin 2048) :
    (iblk m c 5 t : Vec Ideal S1x2048 .f32) (ix2 0 j) = gain m c (ix1 j) := by
  obtain ⟨-, -, -, -, -, ⟨e0, e1⟩, -⟩ := idx_in t
  have h : (iblk m c 5 t : Vec Ideal S1x2048 .f32) (ix2 0 j) = V m c main_v7 (ix2 0 j) := by
    unfold iblk
    rw [View.read_apply]
    show V m c main_v7 _ = V m c main_v7 _
    congr 1
    funext a
    apply Fin.ext
    match a with
    | ⟨0, _⟩ => show win0_5.index t (0 : Fin 2) * 1 + 1 * 0 = 0; omega
    | ⟨1, _⟩ => show win0_5.index t (1 : Fin 2) * 2048 + 1 * j.val = j.val; omega
  rw [h, V_g]
  pointwise

theorem iblk_b (t : Fin cfg0.N) (j : Fin 2048) :
    (iblk m c 6 t : Vec Ideal S1x2048 .f32) (ix2 0 j) = bias m c (ix1 j) := by
  obtain ⟨-, -, -, -, -, -, e0, e1⟩ := idx_in t
  have h : (iblk m c 6 t : Vec Ideal S1x2048 .f32) (ix2 0 j) = V m c main_v9 (ix2 0 j) := by
    unfold iblk
    rw [View.read_apply]
    show V m c main_v9 _ = V m c main_v9 _
    congr 1
    funext a
    apply Fin.ext
    match a with
    | ⟨0, _⟩ => show win0_6.index t (0 : Fin 2) * 1 + 1 * 0 = 0; omega
    | ⟨1, _⟩ => show win0_6.index t (1 : Fin 2) * 2048 + 1 * j.val = j.val; omega
  rw [h, V_b]
  pointwise

/-- What the call is worth at batch entry `b`, time `t`, column `j`. -/
def spec (X : FVec Ideal S4x2048x2048 .f32) (K U : FVec Ideal S4x256x4x512 .f32) (Wq Wo : FVec Ideal S2048x2048 .f32) (g bi : FVec Ideal S2048 .f32)
    (b : Fin 4) (t : Fin 2048) (j : Fin 2048) : EReal :=
  lnorm (Ideal.ofBits .f32 0x45000000#32) (Ideal.ofBits .f32 0x3727C5AC#32)
    (pre (fun i => X (ix3 b t i)) (fun i e => Wq (ix2 i e)) (fun n h d => K (ix4 b n h d)) (fun n h d => U (ix4 b n h d)) (fun e j => Wo (ix2 e j)))
    (fun j => g (ix1 j)) (fun j => bi (ix1 j)) j

/-- The copies a point leaves are its batch entry's keys and values. -/
theorem carried : ∀ (n : ℕ) (hn : n < cfg0.N),
    (∀ k h d, (outsAt0 m c n hn).2.1 (ix2 k (col h d)) = K m c (ix4 (batch n hn) k h d))
    ∧ (∀ k h d, (outsAt0 m c n hn).2.2 (ix2 k (col h d)) = U m c (ix4 (batch n hn) k h d)) := by
  have hA : ∀ (n : ℕ) (hn : n < cfg0.N), n % 8 = 0 →
      (∀ k h d, (outsAt0 m c n hn).2.1 (ix2 k (col h d)) = K m c (ix4 (batch n hn) k h d))
      ∧ (∀ k h d, (outsAt0 m c n hn).2.2 (ix2 k (col h d)) = U m c (ix4 (batch n hn) k h d)) := by
    intro n hn h0
    rw [show outsAt0 m c n hn = _ from outsAt0_A m c ⟨n, hn⟩ h0]
    dsimp only
    rw [copyK_A, copyV_A]
    refine ⟨fun k h d => (pay2_apply _ _ _).trans (iblk_k m c ⟨n, hn⟩ k h d), fun k h d => (pay3_apply _ _ _).trans (iblk_v m c ⟨n, hn⟩ k h d)⟩
  intro n
  induction n with
  | zero => intro hn; exact hA 0 hn rfl
  | succ n ih =>
    intro hn
    by_cases h0 : (n + 1) % 8 = 0
    · exact hA (n + 1) hn h0
    · have hb : batch (n + 1) hn = batch n (Nat.lt_of_succ_lt hn) := Fin.ext (by show (n + 1) / 8 = n / 8; omega)
      rw [show outsAt0 m c (n + 1) hn = _ from outsAt0_B m c ⟨n + 1, hn⟩ h0, hb]
      exact ih (Nat.lt_of_succ_lt hn)

/-- A block computed from the right copies. -/
theorem block_apply (t : Fin cfg0.N) (kb vb : Vec Ideal S256x2048 .bf16)
    (hk : ∀ k h d, kb (ix2 k (col h d)) = K m c (ix4 (batch t.val t.isLt) k h d))
    (hv : ∀ k h d, vb (ix2 k (col h d)) = U m c (ix4 (batch t.val t.isLt) k h d)) (r : Fin 256) (j : Fin 2048) :
    body (iblk m c 0 t) (iblk m c 3 t) kb vb (iblk m c 4 t) (iblk m c 5 t) (iblk m c 6 t) (ix3 0 r j)
      = spec (X m c) (K m c) (U m c) (Wq m c) (Wo m c) (gain m c) (bias m c) (batch t.val t.isLt) (time t.val r) j := by
  have hx := iblk_x m c t r
  have hwq := iblk_wq m c t
  have hwo := iblk_wo m c t
  have hg := iblk_g m c t
  have hb := iblk_b m c t
  refine (body_apply _ _ _ _ _ _ _ r j).trans ?_
  unfold spec
  simp only [hx, hwq, hwo, hg, hb, hk, hv]

/-- What every point leaves in its block. -/
theorem out_apply (t : Fin cfg0.N) (r : Fin 256) (j : Fin 2048) :
    (outsAt0 m c t.val t.isLt).1 (ix3 0 r j)
      = spec (X m c) (K m c) (U m c) (Wq m c) (Wo m c) (gain m c) (bias m c) (batch t.val t.isLt) (time t.val r) j := by
  by_cases h0 : t.val % 8 = 0
  · rw [congrArg (fun p => p.1) (outsAt0_A m c t h0)]
    dsimp only
    rw [out_A]
    exact block_apply m c t _ _ (fun k h d => (pay2_apply _ _ _).trans (iblk_k m c t k h d)) (fun k h d => (pay3_apply _ _ _).trans (iblk_v m c t k h d)) r j
  · obtain ⟨n, hn⟩ := t
    cases n with
    | zero => exact absurd rfl h0
    | succ n =>
      rw [congrArg (fun p => p.1) (outsAt0_B m c ⟨n + 1, hn⟩ h0)]
      dsimp only
      rw [out_B]
      have hb : batch (n + 1) hn = batch n (Nat.lt_of_succ_lt hn) := Fin.ext (by
        have : ¬(n + 1) % 8 = 0 := h0
        show (n + 1) / 8 = n / 8; omega)
      have hc := carried m c n (Nat.lt_of_succ_lt hn)
      exact block_apply m c ⟨n + 1, hn⟩ _ _ (fun k h d => (hc.1 k h d).trans (by rw [hb])) (fun k h d => (hc.2 k h d).trans (by rw [hb])) r j

/-- The call's result array. -/
theorem G7_apply (b : Fin 4) (t : Fin 2048) (j : Fin 2048) :
    G7 m c (ix3 b t j) = spec (X m c) (K m c) (U m c) (Wq m c) (Wo m c) (gain m c) (bias m c) b t j := by
  have hp : pt7Of (ix3 b t j) = 8 * b.val + t.val / 256 := by
    show 8 * (b.val / 1 - 0) + 1 * (t.val / 256 - 0) + 1 * (j.val / 2048 - 0) = _
    omega
  have hlt : pt7Of (ix3 b t j) < cfg0.N := by rw [hp]; show _ < grid0.N; rw [N_0]; omega
  unfold G7
  rw [dif_pos hlt, ← outsAt0_sweep m c _ hlt]
  have hl : loc7Of (ix3 b t j) = ix3 0 ⟨t.val % 256, Nat.mod_lt _ (by decide)⟩ j := by
    funext a; apply Fin.ext
    match a with
    | ⟨0, _⟩ => show b.val % 1 = 0; omega
    | ⟨1, _⟩ => rfl
    | ⟨2, _⟩ => show j.val % 2048 = j.val; omega
  rw [hl]
  refine (out_apply m c ⟨pt7Of (ix3 b t j), hlt⟩ _ j).trans ?_
  have e1 : batch (pt7Of (ix3 b t j)) hlt = b := by
    apply Fin.ext; show pt7Of (ix3 b t j) / 8 = b.val; rw [hp]; omega
  have e2 : time (pt7Of (ix3 b t j)) ⟨t.val % 256, Nat.mod_lt _ (by decide)⟩ = t := by
    apply Fin.ext; show 256 * (pt7Of (ix3 b t j) % 8) + t.val % 256 = t.val; rw [hp]; omega
  rw [e1, e2]

end Cert.Layer.XAttn

end
-- ==== Proof.XAttnRef.lean ====
/-
  Cross-attention to the memory, the reference's side: all heads of all batch entries at once, read at one entry, and the
  equality of the call with it.
-/
module

public import proofs.«01_k».proof.Proof.XAttn
public import proofs.«01_k».proof.Proof.Gen.Reference6Ideal.Run

@[expose] public section

noncomputable section

namespace Cert.Layer.XAttn

open Cert.Reference6Ideal Cert.Reference6Ideal.Gen Cert.Reference6Ideal.Value Idealize.ShloMosaic Idealize.ShloMosaic.TcCoe

/-- The reference's scaled scores. -/
def scores (Q : FVec Ideal S4x2048x4x512 .f32) (K : FVec Ideal S4x256x4x512 .f32) : FVec Ideal S4x4x2048x256 .f32 :=
  mulf (Host.dotGeneral dot_S4x2048x4x512_S4x256x4x512_S4x4x2048x256_3_3_1_1_02_02 none Q K)
    (broadcastInDim S4x4x2048x256 ![] bcast_S_S4x4x2048x256 (constant S_ .f32 0x3D3504F3#32))

/-- The greatest score of every row. -/
def tops (S : FVec Ideal S4x4x2048x256 .f32) : FVec Ideal S4x4x2048 .f32 :=
  Host.reduce FloatOps.maximumf S (constant S_ .f32 0xFF800000#32) reducesTo_S4x4x2048x256_S4x4x2048_d3 h_S_

/-- The exponentials of the scores less a row's greatest. -/
def expsOf (S : FVec Ideal S4x4x2048x256 .f32) (T : FVec Ideal S4x4x2048 .f32) : FVec Ideal S4x4x2048x256 .f32 :=
  Host.exp (subf S (broadcastInDim S4x4x2048x256 ![0, 1, 2, 3] bcast_S4x4x2048x1_S4x4x2048x256_0_1_2_3 (broadcastInDim S4x4x2048x1 ![0, 1, 2] bcast_S4x4x2048_S4x4x2048x1_0_1_2 (maximumf (broadcastInDim S4x4x2048 ![] bcast_S_S4x4x2048 (constant S_ .f32 0xFF800000#32)) T))))

/-- The weights: the exponentials over their sum. -/
def weights (E : FVec Ideal S4x4x2048x256 .f32) : FVec Ideal S4x4x2048x256 .f32 :=
  Host.divf E (broadcastInDim S4x4x2048x256 ![0, 1, 2, 3] bcast_S4x4x2048x1_S4x4x2048x256_0_1_2_3 (broadcastInDim S4x4x2048x1 ![0, 1, 2] bcast_S4x4x2048_S4x4x2048x1_0_1_2 (Host.reduceAdd E (constant S_ .f32 0x00000000#32) reducesTo_S4x4x2048x256_S4x4x2048_d3 h_S_)))

/-- The heads laid side by side. -/
def heads (U : FVec Ideal S4x256x4x512 .f32) (P : FVec Ideal S4x4x2048x256 .f32) : FVec Ideal S4x2048x2048 .f32 :=
  shapeCast _ (transpose S4x2048x4x512 [0, 3, 1, 2] (Host.dotGeneral dot_S4x256x4x512_S4x4x2048x256_S4x4x512x2048_1_3_3_2_02_01 none U P) transposes_S4x4x512x2048_S4x2048x4x512_0_3_1_2) shapeCasts_S4x2048x4x512_S4x2048x2048

theorem scores_apply (Q : FVec Ideal S4x2048x4x512 .f32) (K : FVec Ideal S4x256x4x512 .f32) (b h : Fin 4) (t : Fin 2048) (n : Fin 256) :
    scores Q K (ix4 b h t n) = (∑ d : Fin 512, Q (ix4 b t h d) * K (ix4 b n h d)) * Ideal.ofBits .f32 0x3D3504F3#32 := by
  pointwise [scores]

theorem tops_apply (S : FVec Ideal S4x4x2048x256 .f32) (b h : Fin 4) (t : Fin 2048) :
    tops S (ix3 b h t) = top fun n => S (ix4 b h t n) := by
  unfold tops top
  simp only [pointwise]

theorem top_max (s : Fin 256 → EReal) : max (Ideal.ofBits .f32 0xFF800000#32) (top s) = top s :=
  max_eq_right (Finset.le_fold_max _ |>.mpr (.inl le_rfl))

theorem expsOf_apply (S : FVec Ideal S4x4x2048x256 .f32) (T : FVec Ideal S4x4x2048 .f32) (b h : Fin 4) (t : Fin 2048) (n : Fin 256) :
    expsOf S T (ix4 b h t n) = Ideal.exp (S (ix4 b h t n) - max (Ideal.ofBits .f32 0xFF800000#32) (T (ix3 b h t))) := by
  pointwise [expsOf]

theorem exps_apply (S : FVec Ideal S4x4x2048x256 .f32) (b h : Fin 4) (t : Fin 2048) (n : Fin 256) :
    expsOf S (tops S) (ix4 b h t n) = Ideal.exp (S (ix4 b h t n) - top fun n => S (ix4 b h t n)) :=
  (expsOf_apply S (tops S) b h t n).trans (congrArg (fun z => Ideal.exp (S (ix4 b h t n) - z))
    ((congrArg (max (Ideal.ofBits .f32 0xFF800000#32)) (tops_apply S b h t)).trans (top_max _)))

theorem weights_apply (E : FVec Ideal S4x4x2048x256 .f32) (b h : Fin 4) (t : Fin 2048) (n : Fin 256) :
    weights E (ix4 b h t n) = Ideal.div (E (ix4 b h t n)) (∑ n, E (ix4 b h t n)) := by
  pointwise [weights]

theorem heads_apply (U : FVec Ideal S4x256x4x512 .f32) (P : FVec Ideal S4x4x2048x256 .f32) (b : Fin 4) (t e : Fin 2048) :
    heads U P (ix3 b t e) = ∑ n : Fin 256, P (ix4 b (hd e) t n) * U (ix4 b n (hd e) (lane e)) := by
  pointwise [heads]
  exact Finset.sum_congr rfl fun n _ => mul_comm _ _

/-- The reference's queries. -/
def queries (X : FVec Ideal S4x2048x2048 .f32) (W : FVec Ideal S2048x2048 .f32) : FVec Ideal S4x2048x4x512 .f32 :=
  shapeCast _ (Host.dotGeneral dot_S4x2048x2048_S2048x2048_S4x2048x2048_2_0_01_1_n_n none X W) shapeCasts_S4x2048x2048_S4x2048x4x512

/-- The output product and the residual. -/
def resid (X A : FVec Ideal S4x2048x2048 .f32) (Wo : FVec Ideal S2048x2048 .f32) : FVec Ideal S4x2048x2048 .f32 :=
  addf (mulf (broadcastInDim S4x2048x2048 ![] bcast_S_S4x2048x2048 (constant S_ .f32 0x3F9837F0#32)) X) (Host.dotGeneral dot_S4x2048x2048_S2048x2048_S4x2048x2048_2_0_01_1_n_n none A Wo)

/-- The layer norm. -/
def normed (Y : FVec Ideal S4x2048x2048 .f32) (g bi : FVec Ideal S2048 .f32) : FVec Ideal S4x2048x2048 .f32 :=
  addf (mulf (mulf (subf Y (broadcastInDim S4x2048x2048 ![0, 1, 2] bcast_S4x2048x1_S4x2048x2048_0_1_2 (Host.divf (broadcastInDim S4x2048x1 ![0, 1] bcast_S4x2048_S4x2048x1_0_1 (Host.reduceAdd Y (constant S_ .f32 0x00000000#32) reducesTo_S4x2048x2048_S4x2048_d2 h_S_)) (broadcastInDim S4x2048x1 ![] bcast_S_S4x2048x1 (constant S_ .f32 0x45000000#32))))) (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf (subf Y (broadcastInDim S4x2048x2048 ![0, 1, 2] bcast_S4x2048x1_S4x2048x2048_0_1_2 (Host.divf (broadcastInDim S4x2048x1 ![0, 1] bcast_S4x2048_S4x2048x1_0_1 (Host.reduceAdd Y (constant S_ .f32 0x00000000#32) reducesTo_S4x2048x2048_S4x2048_d2 h_S_)) (broadcastInDim S4x2048x1 ![] bcast_S_S4x2048x1 (constant S_ .f32 0x45000000#32))))) (subf Y (broadcastInDim S4x2048x2048 ![0, 1, 2] bcast_S4x2048x1_S4x2048x2048_0_1_2 (Host.divf (broadcastInDim S4x2048x1 ![0, 1] bcast_S4x2048_S4x2048x1_0_1 (Host.reduceAdd Y (constant S_ .f32 0x00000000#32) reducesTo_S4x2048x2048_S4x2048_d2 h_S_)) (broadcastInDim S4x2048x1 ![] bcast_S_S4x2048x1 (constant S_ .f32 0x45000000#32)))))) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x3727C5AC#32)))))) (broadcastInDim S4x2048x2048 ![0, 1, 2] bcast_S1x1x2048_S4x2048x2048_0_1_2 (broadcastInDim S1x1x2048 ![2] bcast_S2048_S1x1x2048_2 g))) (broadcastInDim S4x2048x2048 ![0, 1, 2] bcast_S1x1x2048_S4x2048x2048_0_1_2 (broadcastInDim S1x1x2048 ![2] bcast_S2048_S1x1x2048_2 bi))

/-- The reference as a function of its arrays. -/
def refTerm (X : FVec Ideal S4x2048x2048 .f32) (K U : FVec Ideal S4x256x4x512 .f32) (Wq Wo : FVec Ideal S2048x2048 .f32) (g bi : FVec Ideal S2048 .f32) :
    FVec Ideal S4x2048x2048 .f32 :=
  normed (resid X (heads U (weights (expsOf (scores (queries X Wq) K) (tops (scores (queries X Wq) K))))) Wo) g bi

/-- The reference's result is that function. -/
theorem res_eq (m : (ℓ : Loc nD τ sig) → Buf (Elt Ideal) ℓ) (c : Dev nD) :
    res_out0 m c = refTerm (m ((c.tc : Thread nD τ).loc main_arg0)) (m ((c.tc : Thread nD τ).loc main_arg1)) (m ((c.tc : Thread nD τ).loc main_arg2))
      (shapeCast _ (m ((c.tc : Thread nD τ).loc main_arg3)) shapeCasts_S1x2048x2048_S2048x2048)
      (shapeCast _ (m ((c.tc : Thread nD τ).loc main_arg4)) shapeCasts_S1x2048x2048_S2048x2048)
      (shapeCast _ (m ((c.tc : Thread nD τ).loc main_arg5)) shapeCasts_S1x2048_S2048)
      (shapeCast _ (m ((c.tc : Thread nD τ).loc main_arg6)) shapeCasts_S1x2048_S2048) := by
  unfold res_out0 res_main_v50 refTerm normed resid heads weights expsOf tops scores queries
  rfl

theorem queries_apply (X : FVec Ideal S4x2048x2048 .f32) (W : FVec Ideal S2048x2048 .f32) (b : Fin 4) (t : Fin 2048) (h : Fin 4) (d : Fin 512) :
    queries X W (ix4 b t h d) = ∑ i : Fin 2048, X (ix3 b t i) * W (ix2 i (col h d)) := by
  pointwise [queries]
  exact Finset.sum_congr rfl fun i _ => congrArg (fun z => X (ix3 b t i) * W (ix2 i z)) (Fin.ext (by show h.val * 512 + d.val = 512 * h.val + d.val; omega))

theorem resid_apply (X A : FVec Ideal S4x2048x2048 .f32) (Wo : FVec Ideal S2048x2048 .f32) (b : Fin 4) (t j : Fin 2048) :
    resid X A Wo (ix3 b t j) = Ideal.ofBits .f32 0x3F9837F0#32 * X (ix3 b t j) + ∑ e : Fin 2048, A (ix3 b t e) * Wo (ix2 e j) := by
  pointwise [resid]

theorem normed_apply (Y : FVec Ideal S4x2048x2048 .f32) (g bi : FVec Ideal S2048 .f32) (b : Fin 4) (t j : Fin 2048) :
    normed Y g bi (ix3 b t j)
      = lnorm (Ideal.ofBits .f32 0x45000000#32) (Ideal.ofBits .f32 0x3727C5AC#32) (fun j => Y (ix3 b t j)) (fun j => g (ix1 j)) (fun j => bi (ix1 j)) j := by
  pointwise [normed, lnorm]

/-- The reference at batch entry `b`, time `t`, column `j`. -/
theorem refTerm_apply (X : FVec Ideal S4x2048x2048 .f32) (K U : FVec Ideal S4x256x4x512 .f32) (Wq Wo : FVec Ideal S2048x2048 .f32) (g bi : FVec Ideal S2048 .f32)
    (b : Fin 4) (t j : Fin 2048) : refTerm X K U Wq Wo g bi (ix3 b t j) = spec X K U Wq Wo g bi b t j := by
  unfold refTerm spec
  rw [normed_apply]
  have hS : ∀ h n, scores (queries X Wq) K (ix4 b h t n)
      = (∑ d : Fin 512, (∑ i : Fin 2048, X (ix3 b t i) * Wq (ix2 i (col h d))) * K (ix4 b n h d)) * Ideal.ofBits .f32 0x3D3504F3#32 := by
    intro h n
    rw [scores_apply]
    simp only [queries_apply]
  have hP : ∀ h n, weights (expsOf (scores (queries X Wq) K) (tops (scores (queries X Wq) K))) (ix4 b h t n)
      = softmax (fun n => (∑ d : Fin 512, (∑ i : Fin 2048, X (ix3 b t i) * Wq (ix2 i (col h d))) * K (ix4 b n h d)) * Ideal.ofBits .f32 0x3D3504F3#32) n := by
    intro h n
    rw [weights_apply]
    simp only [exps_apply, hS]
    rfl
  generalize weights (expsOf (scores (queries X Wq) K) (tops (scores (queries X Wq) K))) = P at hP
  have hy : (fun j => resid X (heads U P) Wo (ix3 b t j))
      = pre (fun i => X (ix3 b t i)) (fun i e => Wq (ix2 i e)) (fun n h d => K (ix4 b n h d)) (fun n h d => U (ix4 b n h d)) (fun e j => Wo (ix2 e j)) := by
    funext j
    rw [resid_apply]
    unfold pre att headv
    simp only [heads_apply, hP]
  rw [hy]

end Cert.Layer.XAttn

namespace Cert.Layer.XAttn

open Cert.Kernel6Ideal Cert.Kernel6Ideal.Gen Cert.Kernel6Ideal.Value Idealize.ShloMosaic Idealize.ShloMosaic.TcCoe

/-- The call computes the reference. -/
theorem value (m : (ℓ : Loc nD τ sig) → Buf (Elt Ideal) ℓ) (c : Dev nD) :
    G7 m c = refTerm (X m c) (K m c) (U m c) (Wq m c) (Wo m c) (gain m c) (bias m c) := by
  funext (i : S4x2048x2048.Idx)
  rw [eq_ix3 i]
  exact (G7_apply m c _ _ _).trans (refTerm_apply _ _ _ _ _ _ _ _ _ _).symm

end Cert.Layer.XAttn

end
-- ==== Proof.ConvRef.lean ====
/- The reference of the convolution's state: its run, and what it returns, the last three positions of the rows. -/
module

public import proofs.«01_k».proof.Proof.Gen.Reference10Ideal
public import Idealize.ShloMosaic.Lib.StableHlo.Run
public import Idealize.ShloMosaic.Lib.Pipeline.Value
public import Idealize.ShloMosaic.Lib.Pointwise

@[expose] public section

noncomputable section

namespace Cert.Reference10Ideal.Conv

open Cert.Reference10Ideal Cert.Reference10Ideal.Gen Idealize.ShloMosaic Idealize.ShloMosaic.TcCoe Idealize.SL.Sem Idealize.ShloMosaic.StableHlo

variable {F : FTy → Type} [FloatOps F]

/-- The reference's operations, in order. -/
abbrev steps : List (HloOp τ sig (Elt F)) :=
  [ reshape main_arg2 main_v0 (rfl : (.f32 : EltTy) = .f32) shapeCasts_S1x128x3x1024_S128x3x1024,
    unary main_arg0 main_v1 ((extractStridedSlice S128x8x1024 ![0, 0, 0] · slices_S128x8x5408_S128x8x1024_0_0_0) : (⟨S128x8x5408, .f32⟩ : BufTy).Contents (Elt F) → (⟨S128x8x1024, .f32⟩ : BufTy).Contents (Elt F)),
    binary main_v0 main_v1 main_v2 ((fun a b => concatenate S128x11x1024 1 [⟨S128x3x1024, a⟩, ⟨S128x8x1024, b⟩] concatenates_S128x3x1024_S128x8x1024_S128x11x1024_d1) : (⟨S128x3x1024, .f32⟩ : BufTy).Contents (Elt F) → (⟨S128x8x1024, .f32⟩ : BufTy).Contents (Elt F) → (⟨S128x11x1024, .f32⟩ : BufTy).Contents (Elt F)),
    unary main_v2 main_v3 ((extractStridedSlice S128x3x1024 ![0, 8, 0] · slices_S128x11x1024_S128x3x1024_0_8_0) : (⟨S128x11x1024, .f32⟩ : BufTy).Contents (Elt F) → (⟨S128x3x1024, .f32⟩ : BufTy).Contents (Elt F)) ]

/-- What it returns of the rows `p` and the state `s` it starts from. -/
def res (p : (⟨S128x8x5408, .f32⟩ : BufTy).Contents (Elt F)) (s : (⟨S1x128x3x1024, .f32⟩ : BufTy).Contents (Elt F)) :
    (⟨S128x3x1024, .f32⟩ : BufTy).Contents (Elt F) :=
  extractStridedSlice S128x3x1024 ![0, 8, 0] (concatenate S128x11x1024 1
    [⟨S128x3x1024, shapeCast S128x3x1024 s shapeCasts_S1x128x3x1024_S128x3x1024⟩,
      ⟨S128x8x1024, extractStridedSlice S128x8x1024 ![0, 0, 0] p slices_S128x8x5408_S128x8x1024_0_0_0⟩]
    concatenates_S128x3x1024_S128x8x1024_S128x11x1024_d1) slices_S128x11x1024_S128x3x1024_0_8_0

/-- Every execution ends with that result, the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = res (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun _ h c => ⟨(h c main_v3).trans ?_, (h c main_arg0).trans ?_, (h c main_arg1).trans ?_,
    (h c main_arg2).trans ?_, (h c main_arg3).trans ?_, (h c main_arg4).trans ?_, (h c main_arg5).trans ?_,
    (h c main_arg6).trans ?_, (h c main_arg7).trans ?_, (h c main_arg8).trans ?_, (h c main_arg9).trans ?_⟩)
    (run_seq (by decide) (by decide) defs main (fun _ => steps) (fun _ => rfl)
      (fun _ => ⟨reshape_bufs_sub .., unary_bufs_sub .., binary_bufs_sub .., unary_bufs_sub ..⟩) m ρ)
  all_goals after_results <;> rfl

/-- Member `b`, position `k` of the state, column `j`: the rows at position `5 + k`. -/
theorem res_apply (p : (⟨S128x8x5408, .f32⟩ : BufTy).Contents (Elt F)) (s : (⟨S1x128x3x1024, .f32⟩ : BufTy).Contents (Elt F))
    (b : Fin 128) (k : Fin 3) (j : Fin 1024) :
    res p s (ix3 b k j) = p (ix3 b ⟨5 + k.val, by omega⟩ ⟨j.val, by omega⟩) := by
  unfold res
  refine (extractStridedSlice_apply _ _ _ _ (ix3 b ⟨8 + k.val, by omega⟩ j) ?_).trans ?_
  · intro a; fin_cases a <;> simp
  refine (concatenate_pair_apply_right (t := S128x11x1024) (s₁ := S128x3x1024) (s₂ := S128x8x1024) 1 _ _ _ _ rfl rfl (ix3 b ⟨5 + k.val, by omega⟩ j) ?_ ?_).trans ?_
  · intro a ha
    fin_cases a
    · simp
    · exact absurd rfl ha
    · simp
  · simp; omega
  · exact extractStridedSlice_apply _ _ _ _ _ fun a => by fin_cases a <;> simp

end Cert.Reference10Ideal.Conv

end
-- ==== Proof.ConvRun.lean ====
/- The grid point of the recurrent unit's call, run once: the kernel's body on whole staging buffers, for the arrays of the sample batch.
   Of its three outputs the run names the third, the convolution's state, and hands the other two back at some contents. -/
module

public import proofs.«01_k».proof.Proof.Gen.Kernel10Ideal.Frame
public import proofs.«01_k».proof.Proof.Gen.Kernel10Ideal.Skeleton
public import proofs.«01_k».proof.Proof.Gen.Kernel10Ideal.Loops
public import Idealize.ShloMosaic.Lib.Pipeline.ReadBack
public import Idealize.ShloMosaic.Lib.Claim

@[expose] public section

set_option maxRecDepth 16384

noncomputable section

namespace Cert.Kernel10Ideal.Conv

open Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A grid point is the first along the time axis: the branch the body takes to load its two states. -/
abbrev first (i : grid0.Coords) : Prop :=
  (Scalar.cmpi .ne (Scalar.extui (Scalar.cmpi .eq (BitVec.ofNat 32 (i 1).val) 0#32)) 0#32) = 1#1

set_option maxHeartbeats 4000000 in
/-- The body at a first point: every input as it was, the convolution's state written piece by piece. -/
noncomputable def run_first (c : Dev nD) (i : grid0.Coords) (arg2 : Memref sig .tc .vmem S8x8x1024 .f32) (harg2 : arg2.IsWhole) (arg3 : Memref sig .tc .vmem S8x8x1024 .f32) (harg3 : arg3.IsWhole) (arg4 : Memref sig .tc .vmem S8x1x1024 .f32) (harg4 : arg4.IsWhole) (arg5 : Memref sig .tc .vmem S8x3x1024 .f32) (harg5 : arg5.IsWhole) (arg6 : Memref sig .tc .vmem S4x1024 .f32) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S1x1024 .f32) (harg9 : arg9.IsWhole) (arg10 : Memref sig .tc .vmem S8x128x128 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S8x8x1024 .f32) (harg13 : arg13.IsWhole) (arg14 : Memref sig .tc .vmem S8x1x1024 .f32) (harg14 : arg14.IsWhole) (arg15 : Memref sig .tc .vmem S8x3x1024 .f32) (harg15 : arg15.IsWhole) (arg16 : Memref sig .tc .vmem S8x16x1024 .f32) (harg16 : arg16.IsWhole) (arg17 : Memref sig .tc .vmem S8x1x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S64x1024 .f32) (harg20 : arg20.IsWhole) (hc : first i)
    (x0 : Vec F S8x8x1024 .f32) (x1 : Vec F S8x8x1024 .f32) (x2 : Vec F S8x1x1024 .f32) (x3 : Vec F S8x3x1024 .f32) (x4 : Vec F S4x1024 .f32) (x5 : Vec F S1x1024 .f32) (x6 : Vec F S8x128x128 .bf16) (x7 : Vec F S1x1024 .f32) (x8 : Vec F S8x128x128 .bf16) (x9 : Vec F S1x1024 .f32) (x10 : Vec F S1x1024 .f32) :
    { L : List (View.Piece (Elt F) S8x3x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f L) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_rg_lru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
    refine ⟨?_, fun E K => ?run⟩
    case run =>
      simp only [cc0_rg_lru_eq_skeleton]; unfold cc0_rg_lru_skel
      simp only [k0_part44_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
      obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
      sl_exec (disch := sl_exact hc)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]
      · iexists _, _; isplitr; swap; · iexact H11
        ipureintro; rfl
      isplitl [H12]
      · iexists _, _; isplitr; swap; · iexact H12
        ipureintro; rfl
      isplitl [H13]
      · iexists _; iexact H13
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      iexists _, _; isplitr; swap; · iexact HS4
      ipureintro; rfl

end Cert.Kernel10Ideal.Conv

end
-- ==== Proof.ConvRows.lean ====
/- Rows of a block stored into a longer buffer and read back from it: what the recurrent unit's call does with the rows of its convolution.
   The shapes are those of any batch and time block. -/
module

public import Idealize.ShloMosaic.Lib.Pipeline.ReadBack
public import Idealize.ShloMosaic.Lib.Pipeline.ValueKit

@[expose] public section

noncomputable section

namespace Cert.Layer.Conv

open Idealize.ShloMosaic

variable {Val : EltTy → Type} {e : EltTy}

/-- A stack of `B` tables of `R` rows and `W` columns. -/
abbrev Stack (B R W : ℕ) : Shape := ⟨3, ![B, R, W]⟩

/-- Three rows loaded out of the `T` rows just stored are those rows of what was stored, whatever was stored before. -/
theorem read_rows [∀ e, Nonempty (Val e)] {sig : RefSig} {κ : Kind} {sp : Space} {B R W b p q T : ℕ}
    (v : View sig κ sp (Stack B R W) e)
    (inb : ∀ a, (![b, p, 0] : Fin 3 → ℕ) a + (![1, T, W] : Fin 3 → ℕ) a ≤ (Stack B R W).size a)
    (inb' : ∀ a, (![b, q, 0] : Fin 3 → ℕ) a + (![1, 3, W] : Fin 3 → ℕ) a ≤ (Stack B R W).size a)
    (w : (Rect.unit (s := Stack B R W) ![b, p, 0] ![1, T, W] inb).shape.Idx → Val e)
    (L : List (View.Piece Val (Stack B R W) e))
    (h : ∀ a, (![0, q - p, 0] : Fin 3 → ℕ) a + (![1, 3, W] : Fin 3 → ℕ) a ≤ (Stack 1 T W).size a) (hpq : p ≤ q) :
    v.readCov (⟨Rect.unit (s := Stack B R W) ![b, p, 0] ![1, T, W] inb, w⟩ :: L)
        (Rect.unit (s := Stack B R W) ![b, q, 0] ![1, 3, W] inb').toLoadRect
      = View.ld (S := Stack 1 T W) w (Rect.unit (s := Stack 1 T W) ![0, q - p, 0] ![1, 3, W] h) := by
  rw [View.readCov_eq_canon']
  funext j
  have e : (Rect.unit (s := Stack B R W) ![b, q, 0] ![1, 3, W] inb').toLoadRect.idx j
      = (Rect.unit (s := Stack B R W) ![b, p, 0] ![1, T, W] inb).emb
          ((Rect.unit (s := Stack 1 T W) ![0, q - p, 0] ![1, 3, W] h).idx j) := by
    rw [show ∀ x, (Rect.unit (s := Stack B R W) ![b, p, 0] ![1, T, W] inb).emb x
      = (Rect.unit (s := Stack B R W) ![b, p, 0] ![1, T, W] inb).idx x from fun _ => rfl]
    refine funext fun a => Fin.ext ?_
    rw [Rect.idx_unit_val, Rect.idx_unit_val, Rect.idx_unit_val]
    fin_cases a <;> simp <;> omega
  rw [e, View.canon_cons_emb]

/-- The last three rows of `T`, table by table. -/
def tail {B T W : ℕ} (h : ∀ a, (![0, T - 3, 0] : Fin 3 → ℕ) a + (![B, 3, W] : Fin 3 → ℕ) a ≤ (Stack B T W).size a)
    (x : (Stack B T W).Idx → Val e) : (Stack B 3 W).Idx → Val e :=
  View.ld x (Rect.unit (s := Stack B T W) ![0, T - 3, 0] ![B, 3, W] h)

/-- Its block of table `b`, read off the three rows of that table. -/
theorem tail_rows {B T W b : ℕ} (h : ∀ a, (![0, T - 3, 0] : Fin 3 → ℕ) a + (![B, 3, W] : Fin 3 → ℕ) a ≤ (Stack B T W).size a)
    (x : (Stack B T W).Idx → Val e)
    (i₁ : ∀ a, (![b, 0, 0] : Fin 3 → ℕ) a + (![1, T, W] : Fin 3 → ℕ) a ≤ (Stack B T W).size a)
    (i₂ : ∀ a, (![0, T - 3, 0] : Fin 3 → ℕ) a + (![1, 3, W] : Fin 3 → ℕ) a ≤ (Stack 1 T W).size a)
    (i₃ : ∀ a, (![b, 0, 0] : Fin 3 → ℕ) a + (![1, 3, W] : Fin 3 → ℕ) a ≤ (Stack B 3 W).size a)
    (j : (Stack 1 3 W).Idx) :
    View.ld (S := Stack 1 T W) (View.ld x (Rect.unit (s := Stack B T W) ![b, 0, 0] ![1, T, W] i₁))
        (Rect.unit (s := Stack 1 T W) ![0, T - 3, 0] ![1, 3, W] i₂) j
      = tail h x ((Rect.unit (s := Stack B 3 W) ![b, 0, 0] ![1, 3, W] i₃).emb j) := by
  refine congrArg x (funext fun a => Fin.ext ?_)
  rw [show (Rect.unit (s := Stack B 3 W) ![b, 0, 0] ![1, 3, W] i₃).emb j
    = (Rect.unit (s := Stack B 3 W) ![b, 0, 0] ![1, 3, W] i₃).idx j from rfl]
  rw [Rect.idx_unit_val, Rect.idx_unit_val, Rect.idx_unit_val, Rect.idx_unit_val]
  fin_cases a <;> simp

/-- An index lies in its own table. -/
theorem mem_table {B W b : ℕ} (y : (Stack B 3 W).Idx) (hb : (y 0).val = b)
    (i₃ : ∀ a, (![b, 0, 0] : Fin 3 → ℕ) a + (![1, 3, W] : Fin 3 → ℕ) a ≤ (Stack B 3 W).size a) :
    y ∈ (Rect.unit (s := Stack B 3 W) ![b, 0, 0] ![1, 3, W] i₃).set := by
  have h1 := (y 1).isLt
  have h2 := (y 2).isLt
  change (y 1).val < 3 at h1
  change (y 2).val < W at h2
  rw [Rect.mem_set_unit]
  intro a
  fin_cases a <;> simp <;> omega

end Cert.Layer.Conv

end
-- ==== Proof.ConvTail.lean ====
/- What the sample batch's grid point writes of the convolution's state: the last three positions of the block of rows it was given. -/
module

public import proofs.«01_k».proof.Proof.ConvRun
public import proofs.«01_k».proof.Proof.ConvRows
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel10Ideal.Conv

open Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Cert.Layer.Conv

set_option maxHeartbeats 2000000 in
/-- The pieces the point writes are the last three rows of the block it was given. -/
theorem run_tail  (c : Dev nD) (i : grid0.Coords) (arg2 : Memref sig .tc .vmem S8x8x1024 .f32) (harg2 : arg2.IsWhole) (arg3 : Memref sig .tc .vmem S8x8x1024 .f32) (harg3 : arg3.IsWhole) (arg4 : Memref sig .tc .vmem S8x1x1024 .f32) (harg4 : arg4.IsWhole) (arg5 : Memref sig .tc .vmem S8x3x1024 .f32) (harg5 : arg5.IsWhole) (arg6 : Memref sig .tc .vmem S4x1024 .f32) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S1x1024 .f32) (harg9 : arg9.IsWhole) (arg10 : Memref sig .tc .vmem S8x128x128 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S8x8x1024 .f32) (harg13 : arg13.IsWhole) (arg14 : Memref sig .tc .vmem S8x1x1024 .f32) (harg14 : arg14.IsWhole) (arg15 : Memref sig .tc .vmem S8x3x1024 .f32) (harg15 : arg15.IsWhole) (arg16 : Memref sig .tc .vmem S8x16x1024 .f32) (harg16 : arg16.IsWhole) (arg17 : Memref sig .tc .vmem S8x1x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S64x1024 .f32) (harg20 : arg20.IsWhole) (hc : first i)
    (x0 : Vec F S8x8x1024 .f32) (x1 : Vec F S8x8x1024 .f32) (x2 : Vec F S8x1x1024 .f32) (x3 : Vec F S8x3x1024 .f32) (x4 : Vec F S4x1024 .f32) (x5 : Vec F S1x1024 .f32) (x6 : Vec F S8x128x128 .bf16) (x7 : Vec F S1x1024 .f32) (x8 : Vec F S8x128x128 .bf16) (x9 : Vec F S1x1024 .f32) (x10 : Vec F S1x1024 .f32) (f : arg15.view.ty.Contents (Elt F)) :
    arg15.view.read (Elt F) (arg15.view.writes (Elt F) f (run_first c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x0 x1 x2 x3 x4 x5 x6 x7 x8 x9 x10).1) = tail (B := 8) (T := 8) (W := 1024) (by decide) x0 := by
  frame_out
  simp (disch := decide) only [k0_pay19, k0_pay21, k0_pay48, k0_pay50, k0_pay51, k0_pay53, k0_pay83, k0_pay85, k0_pay86, k0_pay88, k0_pay116, k0_pay118, k0_pay119, k0_pay121, k0_pay150, k0_pay152, k0_pay153, k0_pay155, k0_pay183, k0_pay185, k0_pay186, k0_pay188, k0_pay217, k0_pay219, k0_pay220, k0_pay222, k0_pay251, k0_pay253, k0_pay254, k0_pay256, k0_pay286, k0_pay288, k0_pay49, k0_pay84, k0_pay117, k0_pay151, k0_pay184, k0_pay218, k0_pay252, k0_pay287, shapeCast_shapeCast]
  simp (disch := decide) only [↓read_rows]
  refine funext fun y => View.read_writes_apply_of_pieces _ _ _ _ (View.PiecesOf.mem ?_) y ?_
  · exact ⟨tail_rows _ _ _ _ (by decide), tail_rows _ _ _ _ (by decide), tail_rows _ _ _ _ (by decide), tail_rows _ _ _ _ (by decide), tail_rows _ _ _ _ (by decide),
      tail_rows _ _ _ _ (by decide), tail_rows _ _ _ _ (by decide), tail_rows _ _ _ _ (by decide), trivial⟩
  have hy : (y 0).val < 8 := (y 0).isLt
  simp only [List.exists_mem_cons_iff]
  obtain h | h | h | h | h | h | h | h : (y 0).val = 0 ∨ (y 0).val = 1 ∨ (y 0).val = 2 ∨ (y 0).val = 3 ∨ (y 0).val = 4
    ∨ (y 0).val = 5 ∨ (y 0).val = 6 ∨ (y 0).val = 7 := by omega
  · exact Or.inr (Or.inr (Or.inr (Or.inr (Or.inr (Or.inr (Or.inr (Or.inl (mem_table y h (by decide)))))))))
  · exact Or.inr (Or.inr (Or.inr (Or.inr (Or.inr (Or.inr (Or.inl (mem_table y h (by decide))))))))
  · exact Or.inr (Or.inr (Or.inr (Or.inr (Or.inr (Or.inl (mem_table y h (by decide)))))))
  · exact Or.inr (Or.inr (Or.inr (Or.inr (Or.inl (mem_table y h (by decide))))))
  · exact Or.inr (Or.inr (Or.inr (Or.inl (mem_table y h (by decide)))))
  · exact Or.inr (Or.inr (Or.inl (mem_table y h (by decide))))
  · exact Or.inr (Or.inl (mem_table y h (by decide)))
  · exact Or.inl (mem_table y h (by decide))

end Cert.Kernel10Ideal.Conv

end
-- ==== Proof.ConvFrame.lean ====
/- The recurrent unit's call over its grid, for the sample batch: the pipeline's data name the third output, the convolution's state, and leave
   the other two unnamed. From the run of one grid point: every execution of the call ends, its inputs unchanged, and the convolution's state
   is the last three positions of the rows it was given. -/
module

public import proofs.«01_k».proof.Proof.ConvTail

@[expose] public section

set_option maxRecDepth 16384

noncomputable section

namespace Cert.Kernel10Ideal.Conv

open Cert.Kernel10Ideal.Gen Cert.Layer.Conv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Every grid point is the first along the time axis, which has one block. -/
theorem all_first (t : Fin cfg0.N) : first (grid0.coords t) := by
  have ht : t.val < 16 := Nat.lt_of_lt_of_eq t.isLt N_0
  have e1 : (grid0.coords t 1).val = t.val / 1 % 1 := Pipeline.Grid.coords_val t 1 (by decide) rfl
  simp only [first, e1]
  word_cmp

/-- The staging buffer of every window at a grid point, and that it is a whole buffer. -/
abbrev ms0_0 (t : Fin cfg0.N) : Memref sig .tc .vmem S8x8x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x8x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x3x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x8x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x3x1024 .f32 := win0_13.stage (cfg0.slots t 13)
abbrev hs0_13 (t : Fin cfg0.N) : (ms0_13 t).IsWhole := hstage0_13 ((cfg0.slots t 13).cast nbuf0_13)
/-- The kernel's own buffers. -/
abbrev scM0_0 : Memref sig .tc .vmem S8x16x1024 .f32 := Memref.whole cc0_scratch0
abbrev scM0_1 : Memref sig .tc .vmem S8x1x1024 .f32 := Memref.whole cc0_scratch1
abbrev scM0_2 : Memref sig .tc .vmem S64x1024 .f32 := Memref.whole cc0_scratch2
abbrev scM0_3 : Memref sig .tc .vmem S64x1024 .f32 := Memref.whole cc0_scratch3
abbrev scM0_4 : Memref sig .tc .vmem S64x1024 .f32 := Memref.whole cc0_scratch4

/-- What is kept from point to point: the kernel's own buffers, each at some contents, and the generator's register. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The two outputs of which nothing is named: the rows and the recurrence's last state. -/
def forgets0 : Fin 14 → Bool := fun w => w.val == 11 || w.val == 12

/-- What every staging buffer holds after a point: an input its block, the third output the last three positions of the rows' block. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, _⟩ => tail (B := 8) (T := 8) (W := 1024) (by decide) (X0_0 m c t)
  Φ _ := Pipeline.ΦA spec0 c
  q w := Pipeline.shareOf spec0 w
  owed _ := 0

/-- The arrays are as the call finds them. -/
theorem A_eq (c : Dev nD) (w : Fin cfg0.W) : (dats m 0 c).A w = V m c (Pipeline.arrRef spec0 w) := by
  dsimp only [dats]

/-- What a point leaves, window by window. -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_13 (c : Dev nD) (t : Fin cfg0.N) : (dats m 0 c).after 13 t = tail (B := 8) (T := 8) (W := 1024) (by decide) (X0_0 m c t) := by dsimp only [dats]

/-- Before a point every input's buffer holds its block. -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## One point -/

/-- What a point starts from, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d)
    ∗ (∃ d, owns (c : Thread nD τ) (ms0_13 t) fullShare ((dats m 0 c).before 13 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare d)
    ∗ (∃ d, owns (c : Thread nD τ) (ms0_12 t) fullShare d)
    ∗ owns (c : Thread nD τ) (ms0_13 t) fullShare ((dats m 0 c).after 13 t))

set_option maxHeartbeats 1600000 in
/-- Every point does that: the run of the body applies, since every point is a first one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_13]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((run_first c (grid0.coords t) _ _ _ _ _ _ _ _ _ _ _ _ _ _ _ _ _ _ _ _ _ _ _ _ _ _ _ _ _ _ _ _ _ _ _ _ _ _ (all_first t) (X0_0 m c t) (X0_1 m c t) (iblk m c 2 t) (iblk m c 3 t) (iblk m c 4 t) (iblk m c 5 t) (iblk m c 6 t) (iblk m c 7 t) (iblk m c 8 t) (iblk m c 9 t) (iblk m c 10 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, ⟨%f13, H13⟩, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  unfold owns
  iexists _; isplitr; swap; · iexact H13
  ipureintro
  exact run_tail _ _ _ _ _ _ _ _ _ _ _ _ _ _ _ _ _ _ _ _ _ _ _ _ _ _ _ _ _ _ _ _ _ _ _ _ _ _ _ _ _ _ _ _ _ _ _ _ _ _ _ _ _

/-- The body that the pipeline calls is that one. -/
theorem defs₀_row (t : Fin cfg0.N) :
    defs₀ (F := F) .tc cfg0.body (cfg0.bodyArgs t (cfg0.slots t)) = bodyAt0 t := by
  unfold defs₀; rw [Defs.onTc_tc]

/-- So the pipeline's condition on the body holds. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch, with every counter at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The launch: every execution ends, with the arrays as the data name them, and every buffer outside the windows as the call found it. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- Buffers outside the windows as the call found them: the arguments among them are as the program found them. -/
theorem kept (c : Dev nD) {μ : (ℓ : Loc nD τ sig) → Buf (Elt F) ℓ}
    (h : ∀ b ∈ Pipeline.restRefs sig spec0, μ ((c.tc : Thread nD τ).loc b) = V m c b) :
      μ ((c.tc : Thread nD τ).loc main_arg0) = m ((c.tc : Thread nD τ).loc main_arg0)
      ∧ μ ((c.tc : Thread nD τ).loc main_arg1) = m ((c.tc : Thread nD τ).loc main_arg1)
      ∧ μ ((c.tc : Thread nD τ).loc main_arg2) = m ((c.tc : Thread nD τ).loc main_arg2)
      ∧ μ ((c.tc : Thread nD τ).loc main_arg3) = m ((c.tc : Thread nD τ).loc main_arg3)
      ∧ μ ((c.tc : Thread nD τ).loc main_arg4) = m ((c.tc : Thread nD τ).loc main_arg4)
      ∧ μ ((c.tc : Thread nD τ).loc main_arg5) = m ((c.tc : Thread nD τ).loc main_arg5)
      ∧ μ ((c.tc : Thread nD τ).loc main_arg6) = m ((c.tc : Thread nD τ).loc main_arg6)
      ∧ μ ((c.tc : Thread nD τ).loc main_arg7) = m ((c.tc : Thread nD τ).loc main_arg7)
      ∧ μ ((c.tc : Thread nD τ).loc main_arg8) = m ((c.tc : Thread nD τ).loc main_arg8)
      ∧ μ ((c.tc : Thread nD τ).loc main_arg9) = m ((c.tc : Thread nD τ).loc main_arg9) :=
  ⟨(h main_arg0 (Pipeline.mem_restRefs_of main_arg0 (by decide) (by decide))).trans (V_main_arg0 m c),
    (h main_arg1 (Pipeline.mem_restRefs_of main_arg1 (by decide) (by decide))).trans (V_main_arg1 m c),
    (h main_arg2 (Pipeline.mem_restRefs_of main_arg2 (by decide) (by decide))).trans (V_main_arg2 m c),
    (h main_arg3 (Pipeline.mem_restRefs_of main_arg3 (by decide) (by decide))).trans (V_main_arg3 m c),
    (h main_arg4 (Pipeline.mem_restRefs_of main_arg4 (by decide) (by decide))).trans (V_main_arg4 m c),
    (h main_arg5 (Pipeline.mem_restRefs_of main_arg5 (by decide) (by decide))).trans (V_main_arg5 m c),
    (h main_arg6 (Pipeline.mem_restRefs_of main_arg6 (by decide) (by decide))).trans (V_main_arg6 m c),
    (h main_arg7 (Pipeline.mem_restRefs_of main_arg7 (by decide) (by decide))).trans (V_main_arg7 m c),
    (h main_arg8 (Pipeline.mem_restRefs_of main_arg8 (by decide) (by decide))).trans (V_main_arg8 m c),
    (h main_arg9 (Pipeline.mem_restRefs_of main_arg9 (by decide) (by decide))).trans (V_main_arg9 m c)⟩

/-- Every execution of the call ends with the convolution's state as the data name it, the arguments as they were. -/
theorem run : θ_run defs (onTc (τ := τ) (main (F := F))) ⟨m, fun _ => 0, ρ⟩ (fun r => ∀ c : Dev nD,
      r.2.mem ((c.tc : Thread nD τ).loc main_v17_2) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.Dat.toRForget_arrAt_iff (dats m 0 c) (w := 13) (by decide) _ _).mp ((h c).1 13), kept m c fun b hb => (h c).2 b hb⟩) (run_main m ρ)

/-- The frame: every execution ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and ((θ_run defs _ _).mono (fun _ h c => (h c).2) (run m ρ)) ((θ_run defs _ _).mono (fun _ h => h.2) (run_main_quiescent m ρ))

end Cert.Kernel10Ideal.Conv

end
-- ==== Proof.ConvValue.lean ====
/- The convolution's state after the recurrent unit's call of the sample batch: every grid point writes the last three positions of its
   eight members, and the blocks make up the array. -/
module

public import proofs.«01_k».proof.Proof.ConvFrame
public import Idealize.ShloMosaic.Lib.Pipeline.Value
public import Idealize.ShloMosaic.Lib.Pointwise

@[expose] public section

noncomputable section

namespace Cert.Kernel10Ideal.Conv

open Cert.Kernel10Ideal.Gen Cert.Layer.Conv Idealize.ShloMosaic Idealize.ShloMosaic.TcCoe Idealize.SL.Sem
open Idealize.ShloMosaic.Pipeline (Dat)

variable (m : (ℓ : Loc nD τ sig) → Buf (Elt Ideal) ℓ) (c : Dev nD)

/-- The projected rows. -/
def rows : FVec Ideal S128x8x5408 .f32 := m ((c : Thread nD τ).loc main_arg0)

theorem V_rows : V m c main_v0 = pad S128x8x5632 ![0, 0, 0] ![0, 0, 224] ![0, 0, 0] (rows m c) (sitofp .f32 (constantI S_ 32 0#32))
    pads_S128x8x5408_S128x8x5632_000_000_02240 h_S_ := by
  unfold V rows hostOps0 hostOps0_1 hostOps0_2
  simp only [List.flatten_cons, List.flatten_nil, List.append_nil, List.cons_append, List.nil_append]
  after_results <;> rfl

/-- Which block of the rows and of the state every grid point works on. -/
theorem idx : ∀ t : Fin cfg0.N, win0_0.index t = ![t.val, 0, 0] ∧ win0_13.index t = ![t.val, 0, 0] :=
  (by decide +kernel : ∀ t : Fin grid0.N, _)

theorem t_lt (t : Fin cfg0.N) : t.val < 16 := lt_of_lt_of_eq t.isLt N_0

/-- The block of rows a grid point reads. -/
theorem block_apply (t : Fin cfg0.N) (b : Fin 8) (q : Fin 8) (j : Fin 1024) :
    (X0_0 m c t : Vec Ideal S8x8x1024 .f32) (ix3 b q j)
      = rows m c (ix3 ⟨8 * t.val + b.val, by have := t_lt t; omega⟩ q ⟨j.val, by omega⟩) := by
  have ht := t_lt t
  have h : (X0_0 m c t : Vec Ideal S8x8x1024 .f32) (ix3 b q j)
      = V m c main_v0 (ix3 ⟨8 * t.val + b.val, by omega⟩ q ⟨j.val, by omega⟩) := by
    unfold X0_0 Pipeline.Window.fill
    rw [dif_pos (moved0_0 t (ix3 b q j))]
    blk_ext [iblk, idx t]
  rw [h, V_rows]
  pointwise
  exact dif_pos ⟨by omega, by omega⟩

/-- The state the call leaves. -/
theorem array : (dats m 0 c).arrAt 13 cfg0.N
    = (fun i => rows m c (ix3 ⟨(i 0).val, (i 0).isLt⟩ ⟨5 + (i 1).val, by have h : (i 1).val < 3 := (i 1).isLt; omega⟩
        ⟨(i 2).val, by have h : (i 2).val < 1024 := (i 2).isLt; omega⟩) : FVec Ideal S128x3x1024 .f32) := by
  refine (dats m 0 c).arrAt_eq_of_covers 13 _ (by decide +kernel) fun t hf y => ?_
  blk_simp
  rw [after0_13]
  obtain ⟨b, k, j, rfl⟩ : ∃ b k j, y = ix3 b k j := ⟨y 0, y 1, y 2, eq_ix3 y⟩
  have ht := t_lt t
  have e : tail (B := 8) (T := 8) (W := 1024) (by decide) (X0_0 m c t) (ix3 b k j)
      = (X0_0 m c t : Vec Ideal S8x8x1024 .f32) (ix3 b ⟨5 + k.val, by omega⟩ j) := by
    unfold tail
    refine congrArg (X0_0 m c t : Vec Ideal S8x8x1024 .f32) (funext fun a => Fin.ext ?_)
    rw [Rect.idx_unit_val]
    fin_cases a <;> simp
  refine e.trans ((block_apply m c t b _ j).trans ?_)
  refine congrArg (rows m c) (funext fun a => Fin.ext ?_)
  have e0 : win0_13.index t 0 * 8 + b.val = 8 * t.val + b.val := by
    rw [(idx t).2]; show t.val * 8 + b.val = 8 * t.val + b.val; omega
  have e1 : 5 + (win0_13.index t 1 * 3 + k.val) = 5 + k.val := by rw [(idx t).2]; show 5 + (0 * 3 + k.val) = 5 + k.val; omega
  have e2 : win0_13.index t 2 * 1024 + j.val = j.val := by rw [(idx t).2]; show 0 * 1024 + j.val = j.val; omega
  match a with
  | ⟨0, _⟩ => exact e0.symm
  | ⟨1, _⟩ => exact e1.symm
  | ⟨2, _⟩ => exact e2.symm

end Cert.Kernel10Ideal.Conv

end
-- ==== Proof.ConvPromptRef.lean ====
/- The reference of the convolution's state for the prompt batch: its run, and what it returns, the last three positions of the rows. -/
module

public import proofs.«01_k».proof.Proof.Gen.Reference11Ideal
public import Idealize.ShloMosaic.Lib.StableHlo.Run
public import Idealize.ShloMosaic.Lib.Pipeline.Value
public import Idealize.ShloMosaic.Lib.Pointwise

@[expose] public section

noncomputable section

namespace Cert.Reference11Ideal.ConvPrompt

open Cert.Reference11Ideal Cert.Reference11Ideal.Gen Idealize.ShloMosaic Idealize.ShloMosaic.TcCoe Idealize.SL.Sem Idealize.ShloMosaic.StableHlo

variable {F : FTy → Type} [FloatOps F]

/-- The reference's operations, in order. -/
abbrev steps : List (HloOp τ sig (Elt F)) :=
  [ reshape main_arg2 main_v0 (rfl : (.f32 : EltTy) = .f32) shapeCasts_S1x4x3x1024_S4x3x1024,
    unary main_arg0 main_v1 ((extractStridedSlice S4x2048x1024 ![0, 0, 0] · slices_S4x2048x5408_S4x2048x1024_0_0_0) : (⟨S4x2048x5408, .f32⟩ : BufTy).Contents (Elt F) → (⟨S4x2048x1024, .f32⟩ : BufTy).Contents (Elt F)),
    binary main_v0 main_v1 main_v2 ((fun a b => concatenate S4x2051x1024 1 [⟨S4x3x1024, a⟩, ⟨S4x2048x1024, b⟩] concatenates_S4x3x1024_S4x2048x1024_S4x2051x1024_d1) : (⟨S4x3x1024, .f32⟩ : BufTy).Contents (Elt F) → (⟨S4x2048x1024, .f32⟩ : BufTy).Contents (Elt F) → (⟨S4x2051x1024, .f32⟩ : BufTy).Contents (Elt F)),
    unary main_v2 main_v3 ((extractStridedSlice S4x3x1024 ![0, 2048, 0] · slices_S4x2051x1024_S4x3x1024_0_2048_0) : (⟨S4x2051x1024, .f32⟩ : BufTy).Contents (Elt F) → (⟨S4x3x1024, .f32⟩ : BufTy).Contents (Elt F)) ]

/-- What it returns of the rows `p` and the state `s` it starts from. -/
def res (p : (⟨S4x2048x5408, .f32⟩ : BufTy).Contents (Elt F)) (s : (⟨S1x4x3x1024, .f32⟩ : BufTy).Contents (Elt F)) :
    (⟨S4x3x1024, .f32⟩ : BufTy).Contents (Elt F) :=
  extractStridedSlice S4x3x1024 ![0, 2048, 0] (concatenate S4x2051x1024 1
    [⟨S4x3x1024, shapeCast S4x3x1024 s shapeCasts_S1x4x3x1024_S4x3x1024⟩,
      ⟨S4x2048x1024, extractStridedSlice S4x2048x1024 ![0, 0, 0] p slices_S4x2048x5408_S4x2048x1024_0_0_0⟩]
    concatenates_S4x3x1024_S4x2048x1024_S4x2051x1024_d1) slices_S4x2051x1024_S4x3x1024_0_2048_0

/-- Every execution ends with that result, the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = res (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun _ h c => ⟨(h c main_v3).trans ?_, (h c main_arg0).trans ?_, (h c main_arg1).trans ?_,
    (h c main_arg2).trans ?_, (h c main_arg3).trans ?_, (h c main_arg4).trans ?_, (h c main_arg5).trans ?_,
    (h c main_arg6).trans ?_, (h c main_arg7).trans ?_, (h c main_arg8).trans ?_, (h c main_arg9).trans ?_⟩)
    (run_seq (by decide) (by decide) defs main (fun _ => steps) (fun _ => rfl)
      (fun _ => ⟨reshape_bufs_sub .., unary_bufs_sub .., binary_bufs_sub .., unary_bufs_sub ..⟩) m ρ)
  all_goals after_results <;> rfl

/-- Member `b`, position `k` of the state, column `j`: the rows at position `2045 + k`. -/
theorem res_apply (p : (⟨S4x2048x5408, .f32⟩ : BufTy).Contents (Elt F)) (s : (⟨S1x4x3x1024, .f32⟩ : BufTy).Contents (Elt F))
    (b : Fin 4) (k : Fin 3) (j : Fin 1024) :
    res p s (ix3 b k j) = p (ix3 b ⟨2045 + k.val, by omega⟩ ⟨j.val, by omega⟩) := by
  unfold res
  refine (extractStridedSlice_apply _ _ _ _ (ix3 b ⟨2048 + k.val, by omega⟩ j) ?_).trans ?_
  · intro a; fin_cases a <;> simp
  refine (concatenate_pair_apply_right (t := S4x2051x1024) (s₁ := S4x3x1024) (s₂ := S4x2048x1024) 1 _ _ _ _ rfl rfl (ix3 b ⟨2045 + k.val, by omega⟩ j) ?_ ?_).trans ?_
  · intro a ha
    fin_cases a
    · simp
    · exact absurd rfl ha
    · simp
  · simp; omega
  · exact extractStridedSlice_apply _ _ _ _ _ fun a => by fin_cases a <;> simp

end Cert.Reference11Ideal.ConvPrompt

end
-- ==== Proof.ConvPromptRun.lean ====
/- The grid point of the recurrent unit's call, run once: the kernel's body on whole staging buffers, for the arrays of the prompt batch.
   Of its three outputs the run names the third, the convolution's state, and hands the other two back at some contents. -/
module

public import proofs.«01_k».proof.Proof.Gen.Kernel11Ideal.Frame
public import proofs.«01_k».proof.Proof.Gen.Kernel11Ideal.Skeleton
public import proofs.«01_k».proof.Proof.Gen.Kernel11Ideal.Loops
public import Idealize.ShloMosaic.Lib.Pipeline.ReadBack
public import Idealize.ShloMosaic.Lib.Claim

@[expose] public section

set_option maxRecDepth 16384

noncomputable section

namespace Cert.Kernel11Ideal.ConvPrompt

open Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A grid point is the first along the time axis: the branch the body takes to load its two states. -/
abbrev first (i : grid0.Coords) : Prop :=
  (Scalar.cmpi .ne (Scalar.extui (Scalar.cmpi .eq (BitVec.ofNat 32 (i 1).val) 0#32)) 0#32) = 1#1

set_option maxHeartbeats 4000000 in
/-- The body at a first point: every input as it was, the convolution's state written piece by piece. -/
noncomputable def run_first (c : Dev nD) (i : grid0.Coords) (arg2 : Memref sig .tc .vmem S2x256x1024 .f32) (harg2 : arg2.IsWhole) (arg3 : Memref sig .tc .vmem S2x256x1024 .f32) (harg3 : arg3.IsWhole) (arg4 : Memref sig .tc .vmem S2x1x1024 .f32) (harg4 : arg4.IsWhole) (arg5 : Memref sig .tc .vmem S2x3x1024 .f32) (harg5 : arg5.IsWhole) (arg6 : Memref sig .tc .vmem S4x1024 .f32) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S1x1024 .f32) (harg9 : arg9.IsWhole) (arg10 : Memref sig .tc .vmem S8x128x128 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S2x256x1024 .f32) (harg13 : arg13.IsWhole) (arg14 : Memref sig .tc .vmem S2x1x1024 .f32) (harg14 : arg14.IsWhole) (arg15 : Memref sig .tc .vmem S2x3x1024 .f32) (harg15 : arg15.IsWhole) (arg16 : Memref sig .tc .vmem S2x264x1024 .f32) (harg16 : arg16.IsWhole) (arg17 : Memref sig .tc .vmem S2x1x1024 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (hc : first i)
    (x0 : Vec F S2x256x1024 .f32) (x1 : Vec F S2x256x1024 .f32) (x2 : Vec F S2x1x1024 .f32) (x3 : Vec F S2x3x1024 .f32) (x4 : Vec F S4x1024 .f32) (x5 : Vec F S1x1024 .f32) (x6 : Vec F S8x128x128 .bf16) (x7 : Vec F S1x1024 .f32) (x8 : Vec F S8x128x128 .bf16) (x9 : Vec F S1x1024 .f32) (x10 : Vec F S1x1024 .f32) :
    { L : List (View.Piece (Elt F) S2x3x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f L) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_rg_lru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
    refine ⟨?_, fun E K => ?run⟩
    case run =>
      simp only [cc0_rg_lru_eq_skeleton]; unfold cc0_rg_lru_skel
      simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
      obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
      sl_exec (disch := sl_exact hc)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]
      · iexists _, _; isplitr; swap; · iexact H11
        ipureintro; rfl
      isplitl [H12]
      · iexists _, _; isplitr; swap; · iexact H12
        ipureintro; rfl
      isplitl [H13]
      · iexists _; iexact H13
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      iexists _, _; isplitr; swap; · iexact HS4
      ipureintro; rfl

set_option maxHeartbeats 4000000 in
/-- The body at a later point: every input as it was, the convolution's state written piece by piece. -/
noncomputable def run_later (c : Dev nD) (i : grid0.Coords) (arg2 : Memref sig .tc .vmem S2x256x1024 .f32) (harg2 : arg2.IsWhole) (arg3 : Memref sig .tc .vmem S2x256x1024 .f32) (harg3 : arg3.IsWhole) (arg4 : Memref sig .tc .vmem S2x1x1024 .f32) (harg4 : arg4.IsWhole) (arg5 : Memref sig .tc .vmem S2x3x1024 .f32) (harg5 : arg5.IsWhole) (arg6 : Memref sig .tc .vmem S4x1024 .f32) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S1x1024 .f32) (harg9 : arg9.IsWhole) (arg10 : Memref sig .tc .vmem S8x128x128 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S2x256x1024 .f32) (harg13 : arg13.IsWhole) (arg14 : Memref sig .tc .vmem S2x1x1024 .f32) (harg14 : arg14.IsWhole) (arg15 : Memref sig .tc .vmem S2x3x1024 .f32) (harg15 : arg15.IsWhole) (arg16 : Memref sig .tc .vmem S2x264x1024 .f32) (harg16 : arg16.IsWhole) (arg17 : Memref sig .tc .vmem S2x1x1024 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (hc : ¬first i)
    (x0 : Vec F S2x256x1024 .f32) (x1 : Vec F S2x256x1024 .f32) (x2 : Vec F S2x1x1024 .f32) (x3 : Vec F S2x3x1024 .f32) (x4 : Vec F S4x1024 .f32) (x5 : Vec F S1x1024 .f32) (x6 : Vec F S8x128x128 .bf16) (x7 : Vec F S1x1024 .f32) (x8 : Vec F S8x128x128 .bf16) (x9 : Vec F S1x1024 .f32) (x10 : Vec F S1x1024 .f32) :
    { L : List (View.Piece (Elt F) S2x3x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f L) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_rg_lru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
    refine ⟨?_, fun E K => ?run⟩
    case run =>
      simp only [cc0_rg_lru_eq_skeleton]; unfold cc0_rg_lru_skel
      simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
      obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
      sl_exec (disch := sl_exact hc)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]
      · iexists _, _; isplitr; swap; · iexact H11
        ipureintro; rfl
      isplitl [H12]
      · iexists _, _; isplitr; swap; · iexact H12
        ipureintro; rfl
      isplitl [H13]
      · iexists _; iexact H13
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      iexists _, _; isplitr; swap; · iexact HS4
      ipureintro; rfl

end Cert.Kernel11Ideal.ConvPrompt

end
-- ==== Proof.ConvPromptTail.lean ====
/- What the prompt batch's grid point writes of the convolution's state: the last three positions of the block of rows it was given,
   at a first point along the time axis and at a later one. -/
module

public import proofs.«01_k».proof.Proof.ConvPromptRun
public import proofs.«01_k».proof.Proof.ConvRows
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel11Ideal.ConvPrompt

open Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Cert.Layer.Conv

/-- Two tables' last rows, written table by table, make up the block. -/
theorem writes_tail {sg : RefSig} {κ : Kind} {sp : Space} (v : View sg κ sp S2x3x1024 .f32) (f : v.ty.Contents (Elt F)) (x : Vec F S2x256x1024 .f32)
    (i₀ : ∀ a, (![0, 0, 0] : Fin 3 → ℕ) a + (![1, 256, 1024] : Fin 3 → ℕ) a ≤ S2x256x1024.size a)
    (i₁ : ∀ a, (![1, 0, 0] : Fin 3 → ℕ) a + (![1, 256, 1024] : Fin 3 → ℕ) a ≤ S2x256x1024.size a)
    (i₂ : ∀ a, (![0, 253, 0] : Fin 3 → ℕ) a + (![1, 3, 1024] : Fin 3 → ℕ) a ≤ (Stack 1 256 1024).size a)
    (j₀ : ∀ a, (![0, 0, 0] : Fin 3 → ℕ) a + (![1, 3, 1024] : Fin 3 → ℕ) a ≤ S2x3x1024.size a)
    (j₁ : ∀ a, (![1, 0, 0] : Fin 3 → ℕ) a + (![1, 3, 1024] : Fin 3 → ℕ) a ≤ S2x3x1024.size a) :
    v.read (Elt F) (v.writes (Elt F) f
      [⟨Rect.unit (s := S2x3x1024) ![1, 0, 0] ![1, 3, 1024] j₁, View.ld (S := Stack 1 256 1024) (View.ld x (Rect.unit (s := S2x256x1024) ![1, 0, 0] ![1, 256, 1024] i₁))
          (Rect.unit (s := Stack 1 256 1024) ![0, 253, 0] ![1, 3, 1024] i₂)⟩,
        ⟨Rect.unit (s := S2x3x1024) ![0, 0, 0] ![1, 3, 1024] j₀, View.ld (S := Stack 1 256 1024) (View.ld x (Rect.unit (s := S2x256x1024) ![0, 0, 0] ![1, 256, 1024] i₀))
          (Rect.unit (s := Stack 1 256 1024) ![0, 253, 0] ![1, 3, 1024] i₂)⟩])
      = tail (B := 2) (T := 256) (W := 1024) (by decide) x := by
  refine funext fun y => View.read_writes_apply_of_pieces _ _ _ _ (View.PiecesOf.mem ?_) y ?_
  · exact ⟨tail_rows (by decide) x i₁ i₂ j₁, tail_rows (by decide) x i₀ i₂ j₀, trivial⟩
  have hy : (y 0).val < 2 := (y 0).isLt
  simp only [List.exists_mem_cons_iff]
  obtain h | h : (y 0).val = 0 ∨ (y 0).val = 1 := by omega
  · exact Or.inr (Or.inl (mem_table y h (by decide)))
  · exact Or.inl (mem_table y h (by decide))

set_option maxHeartbeats 2000000 in
/-- The pieces a first point writes are the last three rows of the block it was given. -/
theorem first_tail (c : Dev nD) (i : grid0.Coords) (arg2 : Memref sig .tc .vmem S2x256x1024 .f32) (harg2 : arg2.IsWhole) (arg3 : Memref sig .tc .vmem S2x256x1024 .f32) (harg3 : arg3.IsWhole) (arg4 : Memref sig .tc .vmem S2x1x1024 .f32) (harg4 : arg4.IsWhole) (arg5 : Memref sig .tc .vmem S2x3x1024 .f32) (harg5 : arg5.IsWhole) (arg6 : Memref sig .tc .vmem S4x1024 .f32) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S1x1024 .f32) (harg9 : arg9.IsWhole) (arg10 : Memref sig .tc .vmem S8x128x128 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S2x256x1024 .f32) (harg13 : arg13.IsWhole) (arg14 : Memref sig .tc .vmem S2x1x1024 .f32) (harg14 : arg14.IsWhole) (arg15 : Memref sig .tc .vmem S2x3x1024 .f32) (harg15 : arg15.IsWhole) (arg16 : Memref sig .tc .vmem S2x264x1024 .f32) (harg16 : arg16.IsWhole) (arg17 : Memref sig .tc .vmem S2x1x1024 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (hc : first i)
    (x0 : Vec F S2x256x1024 .f32) (x1 : Vec F S2x256x1024 .f32) (x2 : Vec F S2x1x1024 .f32) (x3 : Vec F S2x3x1024 .f32) (x4 : Vec F S4x1024 .f32) (x5 : Vec F S1x1024 .f32) (x6 : Vec F S8x128x128 .bf16) (x7 : Vec F S1x1024 .f32) (x8 : Vec F S8x128x128 .bf16) (x9 : Vec F S1x1024 .f32) (x10 : Vec F S1x1024 .f32) (f : arg15.view.ty.Contents (Elt F)) :
    arg15.view.read (Elt F) (arg15.view.writes (Elt F) f (run_first c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x0 x1 x2 x3 x4 x5 x6 x7 x8 x9 x10).1) = tail (B := 2) (T := 256) (W := 1024) (by decide) x0 := by
  frame_out
  simp (disch := decide) only [k0_pay4, k0_pay32, k0_pay33, k0_pay36, k0_pay67, k0_pay68, k0_pay31, k0_pay66, shapeCast_shapeCast]
  simp (disch := decide) only [↓read_rows]
  exact writes_tail _ _ _ _ _ _ _ _

set_option maxHeartbeats 2000000 in
/-- The pieces a later point writes are the last three rows of the block it was given. -/
theorem later_tail (c : Dev nD) (i : grid0.Coords) (arg2 : Memref sig .tc .vmem S2x256x1024 .f32) (harg2 : arg2.IsWhole) (arg3 : Memref sig .tc .vmem S2x256x1024 .f32) (harg3 : arg3.IsWhole) (arg4 : Memref sig .tc .vmem S2x1x1024 .f32) (harg4 : arg4.IsWhole) (arg5 : Memref sig .tc .vmem S2x3x1024 .f32) (harg5 : arg5.IsWhole) (arg6 : Memref sig .tc .vmem S4x1024 .f32) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S1x1024 .f32) (harg9 : arg9.IsWhole) (arg10 : Memref sig .tc .vmem S8x128x128 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S2x256x1024 .f32) (harg13 : arg13.IsWhole) (arg14 : Memref sig .tc .vmem S2x1x1024 .f32) (harg14 : arg14.IsWhole) (arg15 : Memref sig .tc .vmem S2x3x1024 .f32) (harg15 : arg15.IsWhole) (arg16 : Memref sig .tc .vmem S2x264x1024 .f32) (harg16 : arg16.IsWhole) (arg17 : Memref sig .tc .vmem S2x1x1024 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (hc : ¬first i)
    (x0 : Vec F S2x256x1024 .f32) (x1 : Vec F S2x256x1024 .f32) (x2 : Vec F S2x1x1024 .f32) (x3 : Vec F S2x3x1024 .f32) (x4 : Vec F S4x1024 .f32) (x5 : Vec F S1x1024 .f32) (x6 : Vec F S8x128x128 .bf16) (x7 : Vec F S1x1024 .f32) (x8 : Vec F S8x128x128 .bf16) (x9 : Vec F S1x1024 .f32) (x10 : Vec F S1x1024 .f32) (f : arg15.view.ty.Contents (Elt F)) :
    arg15.view.read (Elt F) (arg15.view.writes (Elt F) f (run_later c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x0 x1 x2 x3 x4 x5 x6 x7 x8 x9 x10).1) = tail (B := 2) (T := 256) (W := 1024) (by decide) x0 := by
  frame_out
  simp (disch := decide) only [k0_pay4, k0_pay32, k0_pay33, k0_pay36, k0_pay67, k0_pay68, k0_pay31, k0_pay66, shapeCast_shapeCast]
  simp (disch := decide) only [↓read_rows]
  exact writes_tail _ _ _ _ _ _ _ _

end Cert.Kernel11Ideal.ConvPrompt

end
-- ==== Proof.ConvPromptFrame.lean ====
/- The recurrent unit's call over its grid, for the prompt batch: the pipeline's data name the third output, the convolution's state, and leave
   the other two unnamed. From the run of one grid point: every execution of the call ends, its inputs unchanged, and the convolution's state
   is the last three positions of the rows it was given. -/
module

public import proofs.«01_k».proof.Proof.ConvPromptTail

@[expose] public section

set_option maxRecDepth 16384

noncomputable section

namespace Cert.Kernel11Ideal.ConvPrompt

open Cert.Kernel11Ideal.Gen Cert.Layer.Conv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The staging buffer of every window at a grid point, and that it is a whole buffer. -/
abbrev ms0_0 (t : Fin cfg0.N) : Memref sig .tc .vmem S2x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x3x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x256x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2x1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S2x3x1024 .f32 := win0_13.stage (cfg0.slots t 13)
abbrev hs0_13 (t : Fin cfg0.N) : (ms0_13 t).IsWhole := hstage0_13 ((cfg0.slots t 13).cast nbuf0_13)
/-- The kernel's own buffers. -/
abbrev scM0_0 : Memref sig .tc .vmem S2x264x1024 .f32 := Memref.whole cc0_scratch0
abbrev scM0_1 : Memref sig .tc .vmem S2x1x1024 .f32 := Memref.whole cc0_scratch1
abbrev scM0_2 : Memref sig .tc .vmem S512x1024 .f32 := Memref.whole cc0_scratch2
abbrev scM0_3 : Memref sig .tc .vmem S512x1024 .f32 := Memref.whole cc0_scratch3
abbrev scM0_4 : Memref sig .tc .vmem S512x1024 .f32 := Memref.whole cc0_scratch4

/-- What is kept from point to point: the kernel's own buffers, each at some contents, and the generator's register. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The two outputs of which nothing is named: the rows and the recurrence's last state. -/
def forgets0 : Fin 14 → Bool := fun w => w.val == 11 || w.val == 12

/-- What every staging buffer holds after a point: an input its block, the third output the last three positions of the rows' block. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, _⟩ => tail (B := 2) (T := 256) (W := 1024) (by decide) (X0_0 m c t)
  Φ _ := Pipeline.ΦA spec0 c
  q w := Pipeline.shareOf spec0 w
  owed _ := 0

/-- The arrays are as the call finds them. -/
theorem A_eq (c : Dev nD) (w : Fin cfg0.W) : (dats m 0 c).A w = V m c (Pipeline.arrRef spec0 w) := by
  dsimp only [dats]

/-- What a point leaves, window by window. -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_13 (c : Dev nD) (t : Fin cfg0.N) : (dats m 0 c).after 13 t = tail (B := 2) (T := 256) (W := 1024) (by decide) (X0_0 m c t) := by dsimp only [dats]

/-- Before a point every input's buffer holds its block. -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## One point -/

/-- What a point starts from, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d)
    ∗ (∃ d, owns (c : Thread nD τ) (ms0_13 t) fullShare ((dats m 0 c).before 13 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare d)
    ∗ (∃ d, owns (c : Thread nD τ) (ms0_12 t) fullShare d)
    ∗ owns (c : Thread nD τ) (ms0_13 t) fullShare ((dats m 0 c).after 13 t))

set_option maxHeartbeats 1600000 in
/-- Every point does that: the run of the body applies, at a first point and at a later one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_13]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  by_cases hc : first (grid0.coords t)
  · iapply ((run_first c (grid0.coords t) _ _ _ _ _ _ _ _ _ _ _ _ _ _ _ _ _ _ _ _ _ _ _ _ _ _ _ _ _ _ _ _ _ _ _ _ _ _ hc (X0_0 m c t) (X0_1 m c t) (iblk m c 2 t) (iblk m c 3 t) (iblk m c 4 t) (iblk m c 5 t) (iblk m c 6 t) (iblk m c 7 t) (iblk m c 8 t) (iblk m c 9 t) (iblk m c 10 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, H12, ⟨%f13, H13⟩, HS0, HS1, HS2, HS3, HS4⟩
    isplitl [HS0 HS1 HS2 HS3 HS4 Hg]
    · isplitl [HS0 HS1 HS2 HS3 HS4]
      · isplitl [HS0]
        · iexact HS0
        isplitl [HS1]
        · iexact HS1
        isplitl [HS2]
        · iexact HS2
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    unfold owns
    iexists _; isplitr; swap; · iexact H13
    ipureintro
    exact first_tail _ _ _ _ _ _ _ _ _ _ _ _ _ _ _ _ _ _ _ _ _ _ _ _ _ _ _ _ _ _ _ _ _ _ _ _ _ _ _ _ _ _ _ _ _ _ _ _ _ _ _ _ _
  · iapply ((run_later c (grid0.coords t) _ _ _ _ _ _ _ _ _ _ _ _ _ _ _ _ _ _ _ _ _ _ _ _ _ _ _ _ _ _ _ _ _ _ _ _ _ _ hc (X0_0 m c t) (X0_1 m c t) (iblk m c 2 t) (iblk m c 3 t) (iblk m c 4 t) (iblk m c 5 t) (iblk m c 6 t) (iblk m c 7 t) (iblk m c 8 t) (iblk m c 9 t) (iblk m c 10 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, H12, ⟨%f13, H13⟩, HS0, HS1, HS2, HS3, HS4⟩
    isplitl [HS0 HS1 HS2 HS3 HS4 Hg]
    · isplitl [HS0 HS1 HS2 HS3 HS4]
      · isplitl [HS0]
        · iexact HS0
        isplitl [HS1]
        · iexact HS1
        isplitl [HS2]
        · iexact HS2
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    unfold owns
    iexists _; isplitr; swap; · iexact H13
    ipureintro
    exact later_tail _ _ _ _ _ _ _ _ _ _ _ _ _ _ _ _ _ _ _ _ _ _ _ _ _ _ _ _ _ _ _ _ _ _ _ _ _ _ _ _ _ _ _ _ _ _ _ _ _ _ _ _ _

/-- The body that the pipeline calls is that one. -/
theorem defs₀_row (t : Fin cfg0.N) :
    defs₀ (F := F) .tc cfg0.body (cfg0.bodyArgs t (cfg0.slots t)) = bodyAt0 t := by
  unfold defs₀; rw [Defs.onTc_tc]

/-- So the pipeline's condition on the body holds. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch, with every counter at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The launch: every execution ends, with the arrays as the data name them, and every buffer outside the windows as the call found it. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- Buffers outside the windows as the call found them: the arguments among them are as the program found them. -/
theorem kept (c : Dev nD) {μ : (ℓ : Loc nD τ sig) → Buf (Elt F) ℓ}
    (h : ∀ b ∈ Pipeline.restRefs sig spec0, μ ((c.tc : Thread nD τ).loc b) = V m c b) :
      μ ((c.tc : Thread nD τ).loc main_arg0) = m ((c.tc : Thread nD τ).loc main_arg0)
      ∧ μ ((c.tc : Thread nD τ).loc main_arg1) = m ((c.tc : Thread nD τ).loc main_arg1)
      ∧ μ ((c.tc : Thread nD τ).loc main_arg2) = m ((c.tc : Thread nD τ).loc main_arg2)
      ∧ μ ((c.tc : Thread nD τ).loc main_arg3) = m ((c.tc : Thread nD τ).loc main_arg3)
      ∧ μ ((c.tc : Thread nD τ).loc main_arg4) = m ((c.tc : Thread nD τ).loc main_arg4)
      ∧ μ ((c.tc : Thread nD τ).loc main_arg5) = m ((c.tc : Thread nD τ).loc main_arg5)
      ∧ μ ((c.tc : Thread nD τ).loc main_arg6) = m ((c.tc : Thread nD τ).loc main_arg6)
      ∧ μ ((c.tc : Thread nD τ).loc main_arg7) = m ((c.tc : Thread nD τ).loc main_arg7)
      ∧ μ ((c.tc : Thread nD τ).loc main_arg8) = m ((c.tc : Thread nD τ).loc main_arg8)
      ∧ μ ((c.tc : Thread nD τ).loc main_arg9) = m ((c.tc : Thread nD τ).loc main_arg9) :=
  ⟨(h main_arg0 (Pipeline.mem_restRefs_of main_arg0 (by decide) (by decide))).trans (V_main_arg0 m c),
    (h main_arg1 (Pipeline.mem_restRefs_of main_arg1 (by decide) (by decide))).trans (V_main_arg1 m c),
    (h main_arg2 (Pipeline.mem_restRefs_of main_arg2 (by decide) (by decide))).trans (V_main_arg2 m c),
    (h main_arg3 (Pipeline.mem_restRefs_of main_arg3 (by decide) (by decide))).trans (V_main_arg3 m c),
    (h main_arg4 (Pipeline.mem_restRefs_of main_arg4 (by decide) (by decide))).trans (V_main_arg4 m c),
    (h main_arg5 (Pipeline.mem_restRefs_of main_arg5 (by decide) (by decide))).trans (V_main_arg5 m c),
    (h main_arg6 (Pipeline.mem_restRefs_of main_arg6 (by decide) (by decide))).trans (V_main_arg6 m c),
    (h main_arg7 (Pipeline.mem_restRefs_of main_arg7 (by decide) (by decide))).trans (V_main_arg7 m c),
    (h main_arg8 (Pipeline.mem_restRefs_of main_arg8 (by decide) (by decide))).trans (V_main_arg8 m c),
    (h main_arg9 (Pipeline.mem_restRefs_of main_arg9 (by decide) (by decide))).trans (V_main_arg9 m c)⟩

/-- Every execution of the call ends with the convolution's state as the data name it, the arguments as they were. -/
theorem run : θ_run defs (onTc (τ := τ) (main (F := F))) ⟨m, fun _ => 0, ρ⟩ (fun r => ∀ c : Dev nD,
      r.2.mem ((c.tc : Thread nD τ).loc main_v17_2) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.Dat.toRForget_arrAt_iff (dats m 0 c) (w := 13) (by decide) _ _).mp ((h c).1 13), kept m c fun b hb => (h c).2 b hb⟩) (run_main m ρ)

/-- The frame: every execution ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and ((θ_run defs _ _).mono (fun _ h c => (h c).2) (run m ρ)) ((θ_run defs _ _).mono (fun _ h => h.2) (run_main_quiescent m ρ))

end Cert.Kernel11Ideal.ConvPrompt

end
-- ==== Proof.ConvPromptValue.lean ====
/- The convolution's state after the recurrent unit's call of the prompt batch: of the grid points of two members, the last one along the time
   axis writes back the last three positions, and the blocks make up the array. -/
module

public import proofs.«01_k».proof.Proof.ConvPromptFrame
public import Idealize.ShloMosaic.Lib.Pipeline.Value
public import Idealize.ShloMosaic.Lib.Pointwise

@[expose] public section

noncomputable section

namespace Cert.Kernel11Ideal.ConvPrompt

open Cert.Kernel11Ideal.Gen Cert.Layer.Conv Idealize.ShloMosaic Idealize.ShloMosaic.TcCoe Idealize.SL.Sem
open Idealize.ShloMosaic.Pipeline (Dat)

variable (m : (ℓ : Loc nD τ sig) → Buf (Elt Ideal) ℓ) (c : Dev nD)

/-- The projected rows. -/
def rows : FVec Ideal S4x2048x5408 .f32 := m ((c : Thread nD τ).loc main_arg0)

theorem V_rows : V m c main_v0 = pad S4x2048x5632 ![0, 0, 0] ![0, 0, 224] ![0, 0, 0] (rows m c) (sitofp .f32 (constantI S_ 32 0#32))
    pads_S4x2048x5408_S4x2048x5632_000_000_02240 h_S_ := by
  unfold V rows hostOps0 hostOps0_1 hostOps0_2
  simp only [List.flatten_cons, List.flatten_nil, List.append_nil, List.cons_append, List.nil_append]
  after_results <;> rfl

/-- Which block of the rows and of the state every grid point works on. -/
theorem idx : ∀ t : Fin cfg0.N, win0_0.index t = ![t.val / 8, t.val % 8, 0] ∧ win0_13.index t = ![t.val / 8, 0, 0] :=
  (by decide +kernel : ∀ t : Fin grid0.N, _)

/-- The state is written back at the last point along the time axis. -/
theorem last : ∀ t : Fin cfg0.N, win0_13.flush t = true → t.val % 8 = 7 :=
  (by decide +kernel : ∀ t : Fin grid0.N, _)

theorem t_lt (t : Fin cfg0.N) : t.val < 16 := lt_of_lt_of_eq t.isLt N_0

/-- The block of rows a grid point reads. -/
theorem block_apply (t : Fin cfg0.N) (b : Fin 2) (q : Fin 256) (j : Fin 1024) :
    (X0_0 m c t : Vec Ideal S2x256x1024 .f32) (ix3 b q j)
      = rows m c (ix3 ⟨2 * (t.val / 8) + b.val, by have := t_lt t; omega⟩ ⟨256 * (t.val % 8) + q.val, by omega⟩ ⟨j.val, by omega⟩) := by
  have ht := t_lt t
  have h : (X0_0 m c t : Vec Ideal S2x256x1024 .f32) (ix3 b q j)
      = V m c main_v0 (ix3 ⟨2 * (t.val / 8) + b.val, by omega⟩ ⟨256 * (t.val % 8) + q.val, by omega⟩ ⟨j.val, by omega⟩) := by
    unfold X0_0 Pipeline.Window.fill
    rw [dif_pos (moved0_0 t (ix3 b q j))]
    blk_ext [iblk, idx t]
  rw [h, V_rows]
  pointwise
  exact dif_pos ⟨by omega, by omega⟩

/-- The state the call leaves. -/
theorem array : (dats m 0 c).arrAt 13 cfg0.N
    = (fun i => rows m c (ix3 ⟨(i 0).val, (i 0).isLt⟩ ⟨2045 + (i 1).val, by have h : (i 1).val < 3 := (i 1).isLt; omega⟩
        ⟨(i 2).val, by have h : (i 2).val < 1024 := (i 2).isLt; omega⟩) : FVec Ideal S4x3x1024 .f32) := by
  refine (dats m 0 c).arrAt_eq_of_covers 13 _ (by decide +kernel) fun t hf y => ?_
  blk_simp
  rw [after0_13]
  obtain ⟨b, k, j, rfl⟩ : ∃ b k j, y = ix3 b k j := ⟨y 0, y 1, y 2, eq_ix3 y⟩
  have ht := t_lt t
  have e : tail (B := 2) (T := 256) (W := 1024) (by decide) (X0_0 m c t) (ix3 b k j)
      = (X0_0 m c t : Vec Ideal S2x256x1024 .f32) (ix3 b ⟨253 + k.val, by omega⟩ j) := by
    unfold tail
    refine congrArg (X0_0 m c t : Vec Ideal S2x256x1024 .f32) (funext fun a => Fin.ext ?_)
    rw [Rect.idx_unit_val]
    fin_cases a <;> simp
  refine e.trans ((block_apply m c t b _ j).trans ?_)
  refine congrArg (rows m c) (funext fun a => Fin.ext ?_)
  have e0 : win0_13.index t 0 * 2 + b.val = 2 * (t.val / 8) + b.val := by
    rw [(idx t).2]; show t.val / 8 * 2 + b.val = 2 * (t.val / 8) + b.val; omega
  have e1 : 2045 + (win0_13.index t 1 * 3 + k.val) = 256 * (t.val % 8) + (253 + k.val) := by
    rw [(idx t).2, last t hf]; show 2045 + (0 * 3 + k.val) = 256 * 7 + (253 + k.val); omega
  have e2 : win0_13.index t 2 * 1024 + j.val = j.val := by rw [(idx t).2]; show 0 * 1024 + j.val = j.val; omega
  match a with
  | ⟨0, _⟩ => exact e0.symm
  | ⟨1, _⟩ => exact e1.symm
  | ⟨2, _⟩ => exact e2.symm

end Cert.Kernel11Ideal.ConvPrompt

end
-- ==== Proof.Values.lean ====
/-
  The calls that have a reference: both programs run to the same result array and leave their arguments as they were.
-/
module

public import proofs.«01_k».proof.Defs
public import proofs.«01_k».proof.Proof.Mlp
public import proofs.«01_k».proof.Proof.MlpSample
public import proofs.«01_k».proof.Proof.MemKV
public import proofs.«01_k».proof.Proof.InProjSample
public import proofs.«01_k».proof.Proof.OutProj
public import proofs.«01_k».proof.Proof.XAttnRef
public import proofs.«01_k».proof.Proof.ConvRef
public import proofs.«01_k».proof.Proof.ConvValue
public import proofs.«01_k».proof.Proof.ConvWords
public import proofs.«01_k».proof.Proof.ConvPromptRef
public import proofs.«01_k».proof.Proof.ConvPromptValue
public import proofs.«01_k».proof.Proof.ConvPromptWords
public import proofs.«01_k».proof.Proof.Gen.Reference3Ideal.Run

@[expose] public section

noncomputable section

namespace Cert.Proof

open Idealize.ShloMosaic Idealize.ShloMosaic.TcCoe Idealize.SL.Sem

/-- The feed-forward call. -/
theorem value_2 : Cert.algebraic_Kernel2Ideal_Reference2Ideal := fun m ρ m' ρ' _ hag =>
  have same : ∀ c, Cert.Reference2Ideal.Value.res_out0 m' c = Cert.Kernel2Ideal.Value.G5 m c := by
    intro c
    refine funext fun (i : Cert.Kernel2Ideal.S8192x2048.Idx) => ?_
    rw [eq_ix2 i]
    refine (Cert.Layer.Mlp.res_apply m' c _ _).trans ?_
    rw [(hag c).1, (hag c).2.1, (hag c).2.2.1, (hag c).2.2.2.1, (hag c).2.2.2.2]
    exact (Cert.Layer.Mlp.G5_apply m c _ _).symm
  ⟨fun c => Cert.Kernel2Ideal.Value.G5 m c, Cert.Kernel2Ideal.Value.run m ρ,
    (θ_run _ _ _).mono (fun _ h c => ⟨(h c).1.trans (same c), (h c).2⟩) (Cert.Reference2Ideal.Value.run m' ρ')⟩

/-- The memory's keys, or values. -/
theorem value_3 : Cert.algebraic_Kernel3Ideal_Reference3Ideal := fun m ρ m' ρ' _ hag =>
  ⟨fun c => Cert.Kernel3Ideal.Value.G2 m c, Cert.Kernel3Ideal.Value.run m ρ,
    (θ_run _ _ _).mono (fun _ h c => ⟨(h c).1.trans (by
      rw [(hag c).1, (hag c).2]
      exact (Cert.Layer.MemKV.value m c).symm), (h c).2⟩) (Cert.Reference3Ideal.Value.run m' ρ')⟩

/-- The input projection of the prompt batch, and its last position's row. -/
theorem value_4 : Cert.algebraic_Kernel4Ideal_Reference4Ideal := fun m ρ m' ρ' _ hag =>
  ⟨fun c => (Cert.Kernel4Ideal.Gen.dats m 0 c).arrAt 3 Cert.Kernel4Ideal.cfg0.N,
    fun c => Pipeline.afterTail₀ Cert.Kernel4Ideal.cfgs (Cert.Kernel4Ideal.Gen.dats m) 0 (Cert.Kernel4Ideal.Gen.V0 m)
      [Cert.Kernel4Ideal.Gen.hostOps1] c Cert.Kernel4Ideal.main_v10,
    (θ_run _ _ _).mono (fun _ h c => ⟨(h c).1 3,
      (h c).2 Cert.Kernel4Ideal.main_v10 (Pipeline.mem_restRefs_of Cert.Kernel4Ideal.main_v10 (by decide) (by decide)),
      ((h c).2 Cert.Kernel4Ideal.main_arg0 (Pipeline.mem_restRefs_of Cert.Kernel4Ideal.main_arg0 (by decide) (by decide))).trans
        (Cert.Kernel4Ideal.Gen.W_main_arg0 m (Cert.Kernel4Ideal.Gen.dats m) c),
      ((h c).2 Cert.Kernel4Ideal.main_arg1 (Pipeline.mem_restRefs_of Cert.Kernel4Ideal.main_arg1 (by decide) (by decide))).trans
        (Cert.Kernel4Ideal.Gen.W_main_arg1 m (Cert.Kernel4Ideal.Gen.dats m) c)⟩) (Cert.Kernel4Ideal.Gen.run_main m ρ),
    (θ_run _ _ _).mono (fun _ h c => ⟨(h c).1.trans (by
      rw [(hag c).1, (hag c).2]
      exact (Cert.Layer.InProj.padded_eq m c).symm), (h c).2.1.trans (by
      rw [(hag c).1, (hag c).2]
      exact (Cert.Layer.InProj.shift_eq m c).symm), (h c).2.2⟩) (Cert.Reference4Ideal.Value.run m' ρ')⟩

/-- The output projection of the two mixers. -/
theorem value_5 : Cert.algebraic_Kernel5Ideal_Reference5Ideal := fun m ρ m' ρ' _ hag =>
  have same : ∀ c, Cert.Reference5Ideal.Value.res_out0 m' c = (Cert.Kernel5Ideal.Gen.dats m 0 c).arrAt 7 Cert.Kernel5Ideal.cfg0.N := by
    intro c
    refine funext fun (i : Cert.Kernel5Ideal.S8192x2048.Idx) => ?_
    rw [eq_ix2 i]
    refine (Cert.Layer.OutProj.res_apply m' c _ _).trans ?_
    rw [(hag c).1, (hag c).2.1, (hag c).2.2.1, (hag c).2.2.2.1, (hag c).2.2.2.2.1, (hag c).2.2.2.2.2]
    exact (Cert.Layer.OutProj.out_row m c _ _).symm
  ⟨fun c => (Cert.Kernel5Ideal.Gen.dats m 0 c).arrAt 7 Cert.Kernel5Ideal.cfg0.N, Cert.Kernel5Ideal.Value.run_blocks m ρ,
    (θ_run _ _ _).mono (fun _ h c => ⟨(h c).1.trans (same c), (h c).2⟩) (Cert.Reference5Ideal.Value.run m' ρ')⟩

/-- The cross-attention. -/
theorem value_6 : Cert.algebraic_Kernel6Ideal_Reference6Ideal := fun m ρ m' ρ' _ hag =>
  have same : ∀ c, Cert.Reference6Ideal.Value.res_out0 m' c = Cert.Kernel6Ideal.Value.G7 m c := by
    intro c
    refine (Cert.Layer.XAttn.res_eq m' c).trans ?_
    rw [(hag c).1, (hag c).2.1, (hag c).2.2.1, (hag c).2.2.2.1, (hag c).2.2.2.2.1, (hag c).2.2.2.2.2.1, (hag c).2.2.2.2.2.2]
    exact (Cert.Layer.XAttn.value m c).symm
  ⟨fun c => Cert.Kernel6Ideal.Value.G7 m c, Cert.Kernel6Ideal.Value.run m ρ,
    (θ_run _ _ _).mono (fun _ h c => ⟨(h c).1.trans (same c), (h c).2⟩) (Cert.Reference6Ideal.Value.run m' ρ')⟩

/-- The feed-forward call of the sample batch. -/
theorem value_8 : Cert.algebraic_Kernel8Ideal_Reference8Ideal := fun m ρ m' ρ' _ hag =>
  have same : ∀ c, Cert.Reference8Ideal.Value.res_out0 m' c = Cert.Kernel8Ideal.Value.G5 m c := by
    intro c
    refine funext fun (i : Cert.Kernel8Ideal.S1024x2048.Idx) => ?_
    rw [eq_ix2 i]
    refine (Cert.Layer.MlpSample.res_rows m' c _ _).trans ((Cert.Layer.MlpSample.spec_flat _ _ _ _ _ _ _).trans ?_)
    rw [(hag c).1, (hag c).2.1, (hag c).2.2.1, (hag c).2.2.2.1, (hag c).2.2.2.2]
    exact (congrFun (Cert.Layer.MlpSample.G5_eq m c) _).symm
  ⟨fun c => Cert.Kernel8Ideal.Value.G5 m c, Cert.Kernel8Ideal.Value.run m ρ,
    (θ_run _ _ _).mono (fun _ h c => ⟨(h c).1.trans (same c), (h c).2⟩) (Cert.Reference8Ideal.Value.run m' ρ')⟩

/-- The last position's row of the sample batch's input projection. -/
theorem value_9 : Cert.algebraic_Kernel9Ideal_Reference9Ideal := fun m ρ m' ρ' _ hag =>
  ⟨fun c => Pipeline.afterTail₀ Cert.Kernel9Ideal.cfgs (Cert.Kernel9Ideal.Gen.dats m) 0 (Cert.Kernel9Ideal.Gen.V0 m)
      [Cert.Kernel9Ideal.Gen.hostOps1] c Cert.Kernel9Ideal.main_v10,
    (θ_run _ _ _).mono (fun _ h c => ⟨
      (h c).2 Cert.Kernel9Ideal.main_v10 (Pipeline.mem_restRefs_of Cert.Kernel9Ideal.main_v10 (by decide) (by decide)),
      ((h c).2 Cert.Kernel9Ideal.main_arg0 (Pipeline.mem_restRefs_of Cert.Kernel9Ideal.main_arg0 (by decide) (by decide))).trans
        (Cert.Kernel9Ideal.Gen.W_main_arg0 m (Cert.Kernel9Ideal.Gen.dats m) c),
      ((h c).2 Cert.Kernel9Ideal.main_arg1 (Pipeline.mem_restRefs_of Cert.Kernel9Ideal.main_arg1 (by decide) (by decide))).trans
        (Cert.Kernel9Ideal.Gen.W_main_arg1 m (Cert.Kernel9Ideal.Gen.dats m) c)⟩) (Cert.Kernel9Ideal.Gen.run_main m ρ),
    (θ_run _ _ _).mono (fun _ h c => ⟨(h c).1.trans (by
      rw [(hag c).1, (hag c).2]
      exact (Cert.Layer.InProjSample.shift_eq m c).symm), (h c).2⟩) (Cert.Reference9Ideal.Value.run m' ρ')⟩

/-- The convolution's state that the recurrent unit's call of the sample batch leaves. -/
theorem value_10 : Cert.algebraic_Kernel10Ideal_Reference10Ideal := fun m ρ m' ρ' _ hag =>
  have same : ∀ c : Dev Cert.Kernel10Ideal.nD, Cert.Reference10Ideal.Conv.res (F := Ideal)
        (m' ((c.tc : Thread Cert.Reference10Ideal.nD Cert.Reference10Ideal.τ).loc Cert.Reference10Ideal.main_arg0))
        (m' ((c.tc : Thread Cert.Reference10Ideal.nD Cert.Reference10Ideal.τ).loc Cert.Reference10Ideal.main_arg2))
      = (Cert.Kernel10Ideal.Conv.dats m 0 c).arrAt 13 Cert.Kernel10Ideal.cfg0.N := by
    intro c
    refine Eq.trans ?_ (Cert.Kernel10Ideal.Conv.array m c).symm
    refine funext fun (i : Cert.Kernel10Ideal.S128x3x1024.Idx) => ?_
    rw [eq_ix3 i]
    refine (Cert.Reference10Ideal.Conv.res_apply _ _ _ _ _).trans ?_
    rw [(hag c).1]
    rfl
  ⟨fun c => (Cert.Kernel10Ideal.Conv.dats m 0 c).arrAt 13 Cert.Kernel10Ideal.cfg0.N,
    Cert.Kernel10Ideal.Conv.run m ρ,
    (θ_run _ _ _).mono (fun _ h c => ⟨(h c).1.trans (same c), (h c).2⟩) (Cert.Reference10Ideal.Conv.run m' ρ')⟩

/-- The convolution's state that the recurrent unit's call of the prompt batch leaves. -/
theorem value_11 : Cert.algebraic_Kernel11Ideal_Reference11Ideal := fun m ρ m' ρ' _ hag =>
  have same : ∀ c : Dev Cert.Kernel11Ideal.nD, Cert.Reference11Ideal.ConvPrompt.res (F := Ideal)
        (m' ((c.tc : Thread Cert.Reference11Ideal.nD Cert.Reference11Ideal.τ).loc Cert.Reference11Ideal.main_arg0))
        (m' ((c.tc : Thread Cert.Reference11Ideal.nD Cert.Reference11Ideal.τ).loc Cert.Reference11Ideal.main_arg2))
      = (Cert.Kernel11Ideal.ConvPrompt.dats m 0 c).arrAt 13 Cert.Kernel11Ideal.cfg0.N := by
    intro c
    refine Eq.trans ?_ (Cert.Kernel11Ideal.ConvPrompt.array m c).symm
    refine funext fun (i : Cert.Kernel11Ideal.S4x3x1024.Idx) => ?_
    rw [eq_ix3 i]
    refine (Cert.Reference11Ideal.ConvPrompt.res_apply _ _ _ _ _).trans ?_
    rw [(hag c).1]
    rfl
  ⟨fun c => (Cert.Kernel11Ideal.ConvPrompt.dats m 0 c).arrAt 13 Cert.Kernel11Ideal.cfg0.N,
    Cert.Kernel11Ideal.ConvPrompt.run m ρ,
    (θ_run _ _ _).mono (fun _ h c => ⟨(h c).1.trans (same c), (h c).2⟩) (Cert.Reference11Ideal.ConvPrompt.run m' ρ')⟩

end Cert.Proof

end
-- ==== Proof.lean ====
/-
  The certificate: the frames of all programs, and the equality of each call that has a reference with it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Loops
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Loops
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Loops
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Loops
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel8Ideal.Value
public import proofs.«01_k».proof.Proof.Gen.Reference8Ideal.Run
public import proofs.«01_k».proof.Proof.Gen.Reference9Ideal.Run
public import proofs.«01_k».proof.Proof.Values
public import Idealize.ShloMosaic.Adequacy
public import Idealize.ShloMosaic.Init

@[expose] public section

noncomputable section

namespace Cert.Proof

open Idealize.ShloMosaic Idealize.SL.Sem

/-- Everything claimed. -/
theorem claim : Cert.Claim := ⟨Cert.Kernel.Gen.facts, Cert.KernelIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts,
  fun m ρ _ => Cert.Kernel.Gen.frame m ρ,
  fun m ρ _ => Cert.KernelIdeal.Gen.frame m ρ,
  fun m ρ _ => Cert.Kernel2.Gen.frame m ρ,
  fun m ρ _ => Cert.Kernel2Ideal.Gen.frame m ρ,
  fun m ρ _ => (θ_run _ _ _).mono (fun r h => ⟨fun c => (h c).2, sem_eq_zero_of_no_sems (by decide) r.2⟩) (Cert.Reference2Ideal.Value.run m ρ),
  fun m ρ _ => Cert.Kernel3.Gen.frame m ρ,
  fun m ρ _ => Cert.Kernel3Ideal.Gen.frame m ρ,
  fun m ρ _ => (θ_run _ _ _).mono (fun r h => ⟨fun c => (h c).2, sem_eq_zero_of_no_sems (by decide) r.2⟩) (Cert.Reference3Ideal.Value.run m ρ),
  fun m ρ _ => Cert.Kernel4.Gen.frame m ρ,
  fun m ρ _ => Cert.Kernel4Ideal.Gen.frame m ρ,
  fun m ρ _ => (θ_run _ _ _).mono (fun r h => ⟨fun c => (h c).2.2, sem_eq_zero_of_no_sems (by decide) r.2⟩) (Cert.Reference4Ideal.Value.run m ρ),
  fun m ρ _ => Cert.Kernel5.Gen.frame m ρ,
  fun m ρ _ => Cert.Kernel5Ideal.Gen.frame m ρ,
  fun m ρ _ => (θ_run _ _ _).mono (fun r h => ⟨fun c => (h c).2, sem_eq_zero_of_no_sems (by decide) r.2⟩) (Cert.Reference5Ideal.Value.run m ρ),
  fun m ρ _ => Cert.Kernel6.Gen.frame m ρ,
  fun m ρ _ => Cert.Kernel6Ideal.Gen.frame m ρ,
  fun m ρ _ => (θ_run _ _ _).mono (fun r h => ⟨fun c => (h c).2, sem_eq_zero_of_no_sems (by decide) r.2⟩) (Cert.Reference6Ideal.Value.run m ρ),
  fun m ρ _ => Cert.Kernel8.Gen.frame m ρ,
  fun m ρ _ => Cert.Kernel8Ideal.Gen.frame m ρ,
  fun m ρ _ => (θ_run _ _ _).mono (fun r h => ⟨fun c => (h c).2, sem_eq_zero_of_no_sems (by decide) r.2⟩) (Cert.Reference8Ideal.Value.run m ρ),
  fun m ρ _ => Cert.Kernel9.Gen.frame m ρ,
  fun m ρ _ => Cert.Kernel9Ideal.Gen.frame m ρ,
  fun m ρ _ => (θ_run _ _ _).mono (fun r h => ⟨fun c => (h c).2, sem_eq_zero_of_no_sems (by decide) r.2⟩) (Cert.Reference9Ideal.Value.run m ρ),
  fun m ρ _ => Cert.Kernel10.Conv.frame m ρ,
  fun m ρ _ => Cert.Kernel10Ideal.Conv.frame m ρ,
  fun m ρ _ => (θ_run _ _ _).mono (fun r h => ⟨fun c => (h c).2, sem_eq_zero_of_no_sems (by decide) r.2⟩) (Cert.Reference10Ideal.Conv.run m ρ),
  fun m ρ _ => Cert.Kernel11.ConvPrompt.frame m ρ,
  fun m ρ _ => Cert.Kernel11Ideal.ConvPrompt.frame m ρ,
  fun m ρ _ => (θ_run _ _ _).mono (fun r h => ⟨fun c => (h c).2, sem_eq_zero_of_no_sems (by decide) r.2⟩) (Cert.Reference11Ideal.ConvPrompt.run m ρ),
  trivial,
  trivial,
  value_2,
  trivial,
  value_3,
  trivial,
  value_4,
  trivial,
  value_5,
  trivial,
  value_6,
  trivial,
  value_8,
  trivial,
  value_9,
  trivial,
  value_10,
  trivial,
  value_11⟩

end Cert.Proof

end
